-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 8192]⟩ ⟨2, ![4096, 8192]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S4096x8192 : Shape := ⟨2, ![4096, 8192]⟩
abbrev S1 : Shape := ⟨1, ![1]⟩
abbrev S128x8192 : Shape := ⟨2, ![128, 8192]⟩
abbrev S128x4096 : Shape := ⟨2, ![128, 4096]⟩
abbrev S8x512x8192 : Shape := ⟨3, ![8, 512, 8192]⟩
abbrev S32 : Shape := ⟨1, ![32]⟩
abbrev S8 : Shape := ⟨1, ![8]⟩
abbrev S_ : Shape := ⟨0, ![]⟩
abbrev S1x512x8192 : Shape := ⟨3, ![1, 512, 8192]⟩
abbrev S512x8192 : Shape := ⟨2, ![512, 8192]⟩
abbrev S128x128 : Shape := ⟨2, ![128, 128]⟩
abbrev S128x512 : Shape := ⟨2, ![128, 512]⟩

abbrev nBuf : Space → Nat
  | .hbm => 5
  | .vmem => 4
  | .smem => 2
  | _ => 0

abbrev bufTy : (tb : Table) → Fin (tcTables nBuf tb) → BufTy
  | .hbm, ⟨0, _⟩ => ⟨S4096x128, .i8⟩
  | .hbm, ⟨1, _⟩ => ⟨S4096x8192, .i8⟩
  | .hbm, ⟨2, _⟩ => ⟨S1, .f32⟩
  | .hbm, ⟨3, _⟩ => ⟨S1, .f32⟩
  | .hbm, ⟨4, _⟩ => ⟨S128x8192, .f32⟩
  | .local _ .vmem, ⟨0, _⟩ => ⟨S4096x128, .i8⟩
  | .local _ .vmem, ⟨1, _⟩ => ⟨S128x8192, .f32⟩
  | .local _ .vmem, ⟨2, _⟩ => ⟨S128x4096, .i8⟩
  | .local _ .vmem, ⟨3, _⟩ => ⟨S8x512x8192, .i8⟩
  | .local _ .smem, ⟨0, _⟩ => ⟨S1, .f32⟩
  | .local _ .smem, ⟨1, _⟩ => ⟨S1, .f32⟩
  | _, _ => ⟨S4096x128, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 1 → Bool
  | ⟨0, _⟩ => false
  | _ => false

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  (ofTc nBuf bufTy 1 76 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_off1 (d0 : Dev nD) (c0_i32 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c1_i32_0 : BitVec 32 := 1#32
  let v4 : BitVec 32 := Scalar.subi v3 c1_i32_0
  let v5 : BitVec 32 := Scalar.subi v4 c0_i32
  let c16_i32 : BitVec 32 := 16#32
  let v6 : BitVec 32 := Scalar.addi v5 c16_i32
  let c8_i32 : BitVec 32 := 8#32
  let v7 : BitVec 32 := Scalar.remsi v6 c8_i32
  let c512_i32 : BitVec 32 := 512#32
  let v8 : BitVec 32 := Scalar.muli v7 c512_i32
  let c0_i32_5 : BitVec 32 := 0#32
  ![v8.toNat, 0]
def k0_dev1 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_71 : BitVec 32 := 1#32
  let v85 : BitVec 32 := Scalar.addi v2 c1_i32_71
  let c32_i32_72 : BitVec 32 := 32#32
  let v86 : BitVec 32 := Scalar.remsi v85 c32_i32_72
  let c1_i32_74 : BitVec 32 := 1#32
  let v87 : BitVec 32 := Scalar.muli v86 c1_i32_74
  let v88 : BitVec 32 := Scalar.addi c0_i32_75 v87
  v88.toNat
def k0_dev2 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_76 : BitVec 32 := 2#32
  let v89 : BitVec 32 := Scalar.addi v2 c2_i32_76
  let c32_i32_77 : BitVec 32 := 32#32
  let v90 : BitVec 32 := Scalar.remsi v89 c32_i32_77
  let c1_i32_79 : BitVec 32 := 1#32
  let v91 : BitVec 32 := Scalar.muli v90 c1_i32_79
  let v92 : BitVec 32 := Scalar.addi c0_i32_80 v91
  v92.toNat
def k0_dev3 (d0 : Dev nD) : Nat :=
  let c0_i32_85 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_81 : BitVec 32 := 3#32
  let v93 : BitVec 32 := Scalar.addi v2 c3_i32_81
  let c32_i32_82 : BitVec 32 := 32#32
  let v94 : BitVec 32 := Scalar.remsi v93 c32_i32_82
  let c1_i32_84 : BitVec 32 := 1#32
  let v95 : BitVec 32 := Scalar.muli v94 c1_i32_84
  let v96 : BitVec 32 := Scalar.addi c0_i32_85 v95
  v96.toNat
def k0_dev4 (d0 : Dev nD) : Nat :=
  let c0_i32_90 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_86 : BitVec 32 := 4#32
  let v97 : BitVec 32 := Scalar.addi v2 c4_i32_86
  let c32_i32_87 : BitVec 32 := 32#32
  let v98 : BitVec 32 := Scalar.remsi v97 c32_i32_87
  let c1_i32_89 : BitVec 32 := 1#32
  let v99 : BitVec 32 := Scalar.muli v98 c1_i32_89
  let v100 : BitVec 32 := Scalar.addi c0_i32_90 v99
  v100.toNat
def k0_dev5 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_91 : BitVec 32 := 5#32
  let v101 : BitVec 32 := Scalar.addi v2 c5_i32_91
  let c32_i32_92 : BitVec 32 := 32#32
  let v102 : BitVec 32 := Scalar.remsi v101 c32_i32_92
  let c1_i32_94 : BitVec 32 := 1#32
  let v103 : BitVec 32 := Scalar.muli v102 c1_i32_94
  let v104 : BitVec 32 := Scalar.addi c0_i32_95 v103
  v104.toNat
def k0_dev6 (d0 : Dev nD) : Nat :=
  let c0_i32_100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_96 : BitVec 32 := 6#32
  let v105 : BitVec 32 := Scalar.addi v2 c6_i32_96
  let c32_i32_97 : BitVec 32 := 32#32
  let v106 : BitVec 32 := Scalar.remsi v105 c32_i32_97
  let c1_i32_99 : BitVec 32 := 1#32
  let v107 : BitVec 32 := Scalar.muli v106 c1_i32_99
  let v108 : BitVec 32 := Scalar.addi c0_i32_100 v107
  v108.toNat
def k0_dev7 (d0 : Dev nD) : Nat :=
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_101 : BitVec 32 := 7#32
  let v109 : BitVec 32 := Scalar.addi v2 c7_i32_101
  let c32_i32_102 : BitVec 32 := 32#32
  let v110 : BitVec 32 := Scalar.remsi v109 c32_i32_102
  let c1_i32_104 : BitVec 32 := 1#32
  let v111 : BitVec 32 := Scalar.muli v110 c1_i32_104
  let v112 : BitVec 32 := Scalar.addi c0_i32_105 v111
  v112.toNat
def k0_dev8 (d0 : Dev nD) : Nat :=
  let c0_i32_110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_106 : BitVec 32 := 8#32
  let v113 : BitVec 32 := Scalar.addi v2 c8_i32_106
  let c32_i32_107 : BitVec 32 := 32#32
  let v114 : BitVec 32 := Scalar.remsi v113 c32_i32_107
  let c1_i32_109 : BitVec 32 := 1#32
  let v115 : BitVec 32 := Scalar.muli v114 c1_i32_109
  let v116 : BitVec 32 := Scalar.addi c0_i32_110 v115
  v116.toNat
def k0_dev9 (d0 : Dev nD) : Nat :=
  let c0_i32_114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v117 : BitVec 32 := Scalar.addi v2 c9_i32
  let c32_i32_111 : BitVec 32 := 32#32
  let v118 : BitVec 32 := Scalar.remsi v117 c32_i32_111
  let c1_i32_113 : BitVec 32 := 1#32
  let v119 : BitVec 32 := Scalar.muli v118 c1_i32_113
  let v120 : BitVec 32 := Scalar.addi c0_i32_114 v119
  v120.toNat
def k0_dev10 (d0 : Dev nD) : Nat :=
  let c0_i32_118 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_115 : BitVec 32 := 32#32
  let v122 : BitVec 32 := Scalar.remsi v121 c32_i32_115
  let c1_i32_117 : BitVec 32 := 1#32
  let v123 : BitVec 32 := Scalar.muli v122 c1_i32_117
  let v124 : BitVec 32 := Scalar.addi c0_i32_118 v123
  v124.toNat
def k0_dev11 (d0 : Dev nD) : Nat :=
  let c0_i32_122 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v125 : BitVec 32 := Scalar.addi v2 c11_i32
  let c32_i32_119 : BitVec 32 := 32#32
  let v126 : BitVec 32 := Scalar.remsi v125 c32_i32_119
  let c1_i32_121 : BitVec 32 := 1#32
  let v127 : BitVec 32 := Scalar.muli v126 c1_i32_121
  let v128 : BitVec 32 := Scalar.addi c0_i32_122 v127
  v128.toNat
def k0_dev12 (d0 : Dev nD) : Nat :=
  let c0_i32_126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v129 : BitVec 32 := Scalar.addi v2 c12_i32
  let c32_i32_123 : BitVec 32 := 32#32
  let v130 : BitVec 32 := Scalar.remsi v129 c32_i32_123
  let c1_i32_125 : BitVec 32 := 1#32
  let v131 : BitVec 32 := Scalar.muli v130 c1_i32_125
  let v132 : BitVec 32 := Scalar.addi c0_i32_126 v131
  v132.toNat
def k0_dev13 (d0 : Dev nD) : Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v133 : BitVec 32 := Scalar.addi v2 c13_i32
  let c32_i32_127 : BitVec 32 := 32#32
  let v134 : BitVec 32 := Scalar.remsi v133 c32_i32_127
  let c1_i32_129 : BitVec 32 := 1#32
  let v135 : BitVec 32 := Scalar.muli v134 c1_i32_129
  let v136 : BitVec 32 := Scalar.addi c0_i32_130 v135
  v136.toNat
def k0_dev14 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v137 : BitVec 32 := Scalar.addi v2 c14_i32
  let c32_i32_131 : BitVec 32 := 32#32
  let v138 : BitVec 32 := Scalar.remsi v137 c32_i32_131
  let c1_i32_133 : BitVec 32 := 1#32
  let v139 : BitVec 32 := Scalar.muli v138 c1_i32_133
  let v140 : BitVec 32 := Scalar.addi c0_i32_134 v139
  v140.toNat
def k0_dev15 (d0 : Dev nD) : Nat :=
  let c0_i32_138 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v141 : BitVec 32 := Scalar.addi v2 c15_i32
  let c32_i32_135 : BitVec 32 := 32#32
  let v142 : BitVec 32 := Scalar.remsi v141 c32_i32_135
  let c1_i32_137 : BitVec 32 := 1#32
  let v143 : BitVec 32 := Scalar.muli v142 c1_i32_137
  let v144 : BitVec 32 := Scalar.addi c0_i32_138 v143
  v144.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_139 : BitVec 32 := 16#32
  let v145 : BitVec 32 := Scalar.addi v2 c16_i32_139
  let c32_i32_140 : BitVec 32 := 32#32
  let v146 : BitVec 32 := Scalar.remsi v145 c32_i32_140
  let c1_i32_142 : BitVec 32 := 1#32
  let v147 : BitVec 32 := Scalar.muli v146 c1_i32_142
  let v148 : BitVec 32 := Scalar.addi c0_i32_143 v147
  v148.toNat
def k0_dev17 (d0 : Dev nD) : Nat :=
  let c0_i32_147 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v149 : BitVec 32 := Scalar.addi v2 c17_i32
  let c32_i32_144 : BitVec 32 := 32#32
  let v150 : BitVec 32 := Scalar.remsi v149 c32_i32_144
  let c1_i32_146 : BitVec 32 := 1#32
  let v151 : BitVec 32 := Scalar.muli v150 c1_i32_146
  let v152 : BitVec 32 := Scalar.addi c0_i32_147 v151
  v152.toNat
def k0_dev18 (d0 : Dev nD) : Nat :=
  let c0_i32_151 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v153 : BitVec 32 := Scalar.addi v2 c18_i32
  let c32_i32_148 : BitVec 32 := 32#32
  let v154 : BitVec 32 := Scalar.remsi v153 c32_i32_148
  let c1_i32_150 : BitVec 32 := 1#32
  let v155 : BitVec 32 := Scalar.muli v154 c1_i32_150
  let v156 : BitVec 32 := Scalar.addi c0_i32_151 v155
  v156.toNat
def k0_dev19 (d0 : Dev nD) : Nat :=
  let c0_i32_155 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v157 : BitVec 32 := Scalar.addi v2 c19_i32
  let c32_i32_152 : BitVec 32 := 32#32
  let v158 : BitVec 32 := Scalar.remsi v157 c32_i32_152
  let c1_i32_154 : BitVec 32 := 1#32
  let v159 : BitVec 32 := Scalar.muli v158 c1_i32_154
  let v160 : BitVec 32 := Scalar.addi c0_i32_155 v159
  v160.toNat
def k0_dev20 (d0 : Dev nD) : Nat :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v161 : BitVec 32 := Scalar.addi v2 c20_i32
  let c32_i32_156 : BitVec 32 := 32#32
  let v162 : BitVec 32 := Scalar.remsi v161 c32_i32_156
  let c1_i32_158 : BitVec 32 := 1#32
  let v163 : BitVec 32 := Scalar.muli v162 c1_i32_158
  let v164 : BitVec 32 := Scalar.addi c0_i32_159 v163
  v164.toNat
def k0_dev21 (d0 : Dev nD) : Nat :=
  let c0_i32_163 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v165 : BitVec 32 := Scalar.addi v2 c21_i32
  let c32_i32_160 : BitVec 32 := 32#32
  let v166 : BitVec 32 := Scalar.remsi v165 c32_i32_160
  let c1_i32_162 : BitVec 32 := 1#32
  let v167 : BitVec 32 := Scalar.muli v166 c1_i32_162
  let v168 : BitVec 32 := Scalar.addi c0_i32_163 v167
  v168.toNat
def k0_dev22 (d0 : Dev nD) : Nat :=
  let c0_i32_167 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v169 : BitVec 32 := Scalar.addi v2 c22_i32
  let c32_i32_164 : BitVec 32 := 32#32
  let v170 : BitVec 32 := Scalar.remsi v169 c32_i32_164
  let c1_i32_166 : BitVec 32 := 1#32
  let v171 : BitVec 32 := Scalar.muli v170 c1_i32_166
  let v172 : BitVec 32 := Scalar.addi c0_i32_167 v171
  v172.toNat
def k0_dev23 (d0 : Dev nD) : Nat :=
  let c0_i32_171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v173 : BitVec 32 := Scalar.addi v2 c23_i32
  let c32_i32_168 : BitVec 32 := 32#32
  let v174 : BitVec 32 := Scalar.remsi v173 c32_i32_168
  let c1_i32_170 : BitVec 32 := 1#32
  let v175 : BitVec 32 := Scalar.muli v174 c1_i32_170
  let v176 : BitVec 32 := Scalar.addi c0_i32_171 v175
  v176.toNat
def k0_dev24 (d0 : Dev nD) : Nat :=
  let c0_i32_175 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v177 : BitVec 32 := Scalar.addi v2 c24_i32
  let c32_i32_172 : BitVec 32 := 32#32
  let v178 : BitVec 32 := Scalar.remsi v177 c32_i32_172
  let c1_i32_174 : BitVec 32 := 1#32
  let v179 : BitVec 32 := Scalar.muli v178 c1_i32_174
  let v180 : BitVec 32 := Scalar.addi c0_i32_175 v179
  v180.toNat
def k0_dev25 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v181 : BitVec 32 := Scalar.addi v2 c25_i32
  let c32_i32_176 : BitVec 32 := 32#32
  let v182 : BitVec 32 := Scalar.remsi v181 c32_i32_176
  let c1_i32_178 : BitVec 32 := 1#32
  let v183 : BitVec 32 := Scalar.muli v182 c1_i32_178
  let v184 : BitVec 32 := Scalar.addi c0_i32_179 v183
  v184.toNat
def k0_dev26 (d0 : Dev nD) : Nat :=
  let c0_i32_183 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v185 : BitVec 32 := Scalar.addi v2 c26_i32
  let c32_i32_180 : BitVec 32 := 32#32
  let v186 : BitVec 32 := Scalar.remsi v185 c32_i32_180
  let c1_i32_182 : BitVec 32 := 1#32
  let v187 : BitVec 32 := Scalar.muli v186 c1_i32_182
  let v188 : BitVec 32 := Scalar.addi c0_i32_183 v187
  v188.toNat
def k0_dev27 (d0 : Dev nD) : Nat :=
  let c0_i32_187 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v189 : BitVec 32 := Scalar.addi v2 c27_i32
  let c32_i32_184 : BitVec 32 := 32#32
  let v190 : BitVec 32 := Scalar.remsi v189 c32_i32_184
  let c1_i32_186 : BitVec 32 := 1#32
  let v191 : BitVec 32 := Scalar.muli v190 c1_i32_186
  let v192 : BitVec 32 := Scalar.addi c0_i32_187 v191
  v192.toNat
def k0_dev28 (d0 : Dev nD) : Nat :=
  let c0_i32_191 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v193 : BitVec 32 := Scalar.addi v2 c28_i32
  let c32_i32_188 : BitVec 32 := 32#32
  let v194 : BitVec 32 := Scalar.remsi v193 c32_i32_188
  let c1_i32_190 : BitVec 32 := 1#32
  let v195 : BitVec 32 := Scalar.muli v194 c1_i32_190
  let v196 : BitVec 32 := Scalar.addi c0_i32_191 v195
  v196.toNat
def k0_dev29 (d0 : Dev nD) : Nat :=
  let c0_i32_195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v197 : BitVec 32 := Scalar.addi v2 c29_i32
  let c32_i32_192 : BitVec 32 := 32#32
  let v198 : BitVec 32 := Scalar.remsi v197 c32_i32_192
  let c1_i32_194 : BitVec 32 := 1#32
  let v199 : BitVec 32 := Scalar.muli v198 c1_i32_194
  let v200 : BitVec 32 := Scalar.addi c0_i32_195 v199
  v200.toNat
def k0_dev30 (d0 : Dev nD) : Nat :=
  let c0_i32_199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v201 : BitVec 32 := Scalar.addi v2 c30_i32
  let c32_i32_196 : BitVec 32 := 32#32
  let v202 : BitVec 32 := Scalar.remsi v201 c32_i32_196
  let c1_i32_198 : BitVec 32 := 1#32
  let v203 : BitVec 32 := Scalar.muli v202 c1_i32_198
  let v204 : BitVec 32 := Scalar.addi c0_i32_199 v203
  v204.toNat
def k0_dev31 (d0 : Dev nD) : Nat :=
  let c0_i32_203 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v205 : BitVec 32 := Scalar.addi v2 c31_i32
  let c32_i32_200 : BitVec 32 := 32#32
  let v206 : BitVec 32 := Scalar.remsi v205 c32_i32_200
  let c1_i32_202 : BitVec 32 := 1#32
  let v207 : BitVec 32 := Scalar.muli v206 c1_i32_202
  let v208 : BitVec 32 := Scalar.addi c0_i32_203 v207
  v208.toNat
def k0_off2 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off3 (d0 : Dev nD) : Fin 2 → Nat :=
  let c0_i32_211 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_207 : BitVec 32 := 128#32
  let v212 : BitVec 32 := Scalar.muli v2 c128_i32_207
  ![0, v212.toNat]
def k0_off4 (d0 : Dev nD) (c0_i32_205 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v209 : BitVec 32 := Scalar.addi v2 c0_i32_205
  let c32_i32_206 : BitVec 32 := 32#32
  let v210 : BitVec 32 := Scalar.remsi v209 c32_i32_206
  let c128_i32 : BitVec 32 := 128#32
  let v211 : BitVec 32 := Scalar.muli v210 c128_i32
  let c0_i32_212 : BitVec 32 := 0#32
  ![v211.toNat, 0]
def k0_dev32 (d0 : Dev nD) : Nat :=
  let c0_i32_210 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_205 : BitVec 32 := 0#32
  let v209 : BitVec 32 := Scalar.addi v2 c0_i32_205
  let c32_i32_206 : BitVec 32 := 32#32
  let v210 : BitVec 32 := Scalar.remsi v209 c32_i32_206
  let c1_i32_209 : BitVec 32 := 1#32
  let v213 : BitVec 32 := Scalar.muli v210 c1_i32_209
  let v214 : BitVec 32 := Scalar.addi c0_i32_210 v213
  v214.toNat
def k0_dev33 (d0 : Dev nD) : Nat :=
  let c0_i32_219 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_213 : BitVec 32 := 1#32
  let v221 : BitVec 32 := Scalar.addi v2 c1_i32_213
  let c32_i32_214 : BitVec 32 := 32#32
  let v222 : BitVec 32 := Scalar.remsi v221 c32_i32_214
  let c1_i32_218 : BitVec 32 := 1#32
  let v225 : BitVec 32 := Scalar.muli v222 c1_i32_218
  let v226 : BitVec 32 := Scalar.addi c0_i32_219 v225
  v226.toNat
def k0_dev34 (d0 : Dev nD) : Nat :=
  let c0_i32_228 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_222 : BitVec 32 := 2#32
  let v233 : BitVec 32 := Scalar.addi v2 c2_i32_222
  let c32_i32_223 : BitVec 32 := 32#32
  let v234 : BitVec 32 := Scalar.remsi v233 c32_i32_223
  let c1_i32_227 : BitVec 32 := 1#32
  let v237 : BitVec 32 := Scalar.muli v234 c1_i32_227
  let v238 : BitVec 32 := Scalar.addi c0_i32_228 v237
  v238.toNat
def k0_dev35 (d0 : Dev nD) : Nat :=
  let c0_i32_237 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_231 : BitVec 32 := 3#32
  let v245 : BitVec 32 := Scalar.addi v2 c3_i32_231
  let c32_i32_232 : BitVec 32 := 32#32
  let v246 : BitVec 32 := Scalar.remsi v245 c32_i32_232
  let c1_i32_236 : BitVec 32 := 1#32
  let v249 : BitVec 32 := Scalar.muli v246 c1_i32_236
  let v250 : BitVec 32 := Scalar.addi c0_i32_237 v249
  v250.toNat
def k0_dev36 (d0 : Dev nD) : Nat :=
  let c0_i32_246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_240 : BitVec 32 := 4#32
  let v257 : BitVec 32 := Scalar.addi v2 c4_i32_240
  let c32_i32_241 : BitVec 32 := 32#32
  let v258 : BitVec 32 := Scalar.remsi v257 c32_i32_241
  let c1_i32_245 : BitVec 32 := 1#32
  let v261 : BitVec 32 := Scalar.muli v258 c1_i32_245
  let v262 : BitVec 32 := Scalar.addi c0_i32_246 v261
  v262.toNat
def k0_dev37 (d0 : Dev nD) : Nat :=
  let c0_i32_255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_249 : BitVec 32 := 5#32
  let v269 : BitVec 32 := Scalar.addi v2 c5_i32_249
  let c32_i32_250 : BitVec 32 := 32#32
  let v270 : BitVec 32 := Scalar.remsi v269 c32_i32_250
  let c1_i32_254 : BitVec 32 := 1#32
  let v273 : BitVec 32 := Scalar.muli v270 c1_i32_254
  let v274 : BitVec 32 := Scalar.addi c0_i32_255 v273
  v274.toNat
def k0_dev38 (d0 : Dev nD) : Nat :=
  let c0_i32_264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_258 : BitVec 32 := 6#32
  let v281 : BitVec 32 := Scalar.addi v2 c6_i32_258
  let c32_i32_259 : BitVec 32 := 32#32
  let v282 : BitVec 32 := Scalar.remsi v281 c32_i32_259
  let c1_i32_263 : BitVec 32 := 1#32
  let v285 : BitVec 32 := Scalar.muli v282 c1_i32_263
  let v286 : BitVec 32 := Scalar.addi c0_i32_264 v285
  v286.toNat
def k0_dev39 (d0 : Dev nD) : Nat :=
  let c0_i32_273 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_267 : BitVec 32 := 7#32
  let v293 : BitVec 32 := Scalar.addi v2 c7_i32_267
  let c32_i32_268 : BitVec 32 := 32#32
  let v294 : BitVec 32 := Scalar.remsi v293 c32_i32_268
  let c1_i32_272 : BitVec 32 := 1#32
  let v297 : BitVec 32 := Scalar.muli v294 c1_i32_272
  let v298 : BitVec 32 := Scalar.addi c0_i32_273 v297
  v298.toNat
def k0_dev40 (d0 : Dev nD) : Nat :=
  let c0_i32_282 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_276 : BitVec 32 := 8#32
  let v305 : BitVec 32 := Scalar.addi v2 c8_i32_276
  let c32_i32_277 : BitVec 32 := 32#32
  let v306 : BitVec 32 := Scalar.remsi v305 c32_i32_277
  let c1_i32_281 : BitVec 32 := 1#32
  let v309 : BitVec 32 := Scalar.muli v306 c1_i32_281
  let v310 : BitVec 32 := Scalar.addi c0_i32_282 v309
  v310.toNat
def k0_dev41 (d0 : Dev nD) : Nat :=
  let c0_i32_291 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_285 : BitVec 32 := 9#32
  let v317 : BitVec 32 := Scalar.addi v2 c9_i32_285
  let c32_i32_286 : BitVec 32 := 32#32
  let v318 : BitVec 32 := Scalar.remsi v317 c32_i32_286
  let c1_i32_290 : BitVec 32 := 1#32
  let v321 : BitVec 32 := Scalar.muli v318 c1_i32_290
  let v322 : BitVec 32 := Scalar.addi c0_i32_291 v321
  v322.toNat
def k0_dev42 (d0 : Dev nD) : Nat :=
  let c0_i32_300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_294 : BitVec 32 := 10#32
  let v329 : BitVec 32 := Scalar.addi v2 c10_i32_294
  let c32_i32_295 : BitVec 32 := 32#32
  let v330 : BitVec 32 := Scalar.remsi v329 c32_i32_295
  let c1_i32_299 : BitVec 32 := 1#32
  let v333 : BitVec 32 := Scalar.muli v330 c1_i32_299
  let v334 : BitVec 32 := Scalar.addi c0_i32_300 v333
  v334.toNat
def k0_dev43 (d0 : Dev nD) : Nat :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_303 : BitVec 32 := 11#32
  let v341 : BitVec 32 := Scalar.addi v2 c11_i32_303
  let c32_i32_304 : BitVec 32 := 32#32
  let v342 : BitVec 32 := Scalar.remsi v341 c32_i32_304
  let c1_i32_308 : BitVec 32 := 1#32
  let v345 : BitVec 32 := Scalar.muli v342 c1_i32_308
  let v346 : BitVec 32 := Scalar.addi c0_i32_309 v345
  v346.toNat
def k0_dev44 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_312 : BitVec 32 := 12#32
  let v353 : BitVec 32 := Scalar.addi v2 c12_i32_312
  let c32_i32_313 : BitVec 32 := 32#32
  let v354 : BitVec 32 := Scalar.remsi v353 c32_i32_313
  let c1_i32_317 : BitVec 32 := 1#32
  let v357 : BitVec 32 := Scalar.muli v354 c1_i32_317
  let v358 : BitVec 32 := Scalar.addi c0_i32_318 v357
  v358.toNat
def k0_dev45 (d0 : Dev nD) : Nat :=
  let c0_i32_327 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_321 : BitVec 32 := 13#32
  let v365 : BitVec 32 := Scalar.addi v2 c13_i32_321
  let c32_i32_322 : BitVec 32 := 32#32
  let v366 : BitVec 32 := Scalar.remsi v365 c32_i32_322
  let c1_i32_326 : BitVec 32 := 1#32
  let v369 : BitVec 32 := Scalar.muli v366 c1_i32_326
  let v370 : BitVec 32 := Scalar.addi c0_i32_327 v369
  v370.toNat
def k0_dev46 (d0 : Dev nD) : Nat :=
  let c0_i32_336 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_330 : BitVec 32 := 14#32
  let v377 : BitVec 32 := Scalar.addi v2 c14_i32_330
  let c32_i32_331 : BitVec 32 := 32#32
  let v378 : BitVec 32 := Scalar.remsi v377 c32_i32_331
  let c1_i32_335 : BitVec 32 := 1#32
  let v381 : BitVec 32 := Scalar.muli v378 c1_i32_335
  let v382 : BitVec 32 := Scalar.addi c0_i32_336 v381
  v382.toNat
def k0_dev47 (d0 : Dev nD) : Nat :=
  let c0_i32_345 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_339 : BitVec 32 := 15#32
  let v389 : BitVec 32 := Scalar.addi v2 c15_i32_339
  let c32_i32_340 : BitVec 32 := 32#32
  let v390 : BitVec 32 := Scalar.remsi v389 c32_i32_340
  let c1_i32_344 : BitVec 32 := 1#32
  let v393 : BitVec 32 := Scalar.muli v390 c1_i32_344
  let v394 : BitVec 32 := Scalar.addi c0_i32_345 v393
  v394.toNat
def k0_dev48 (d0 : Dev nD) : Nat :=
  let c0_i32_354 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_348 : BitVec 32 := 16#32
  let v401 : BitVec 32 := Scalar.addi v2 c16_i32_348
  let c32_i32_349 : BitVec 32 := 32#32
  let v402 : BitVec 32 := Scalar.remsi v401 c32_i32_349
  let c1_i32_353 : BitVec 32 := 1#32
  let v405 : BitVec 32 := Scalar.muli v402 c1_i32_353
  let v406 : BitVec 32 := Scalar.addi c0_i32_354 v405
  v406.toNat
def k0_dev49 (d0 : Dev nD) : Nat :=
  let c0_i32_363 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_357 : BitVec 32 := 17#32
  let v413 : BitVec 32 := Scalar.addi v2 c17_i32_357
  let c32_i32_358 : BitVec 32 := 32#32
  let v414 : BitVec 32 := Scalar.remsi v413 c32_i32_358
  let c1_i32_362 : BitVec 32 := 1#32
  let v417 : BitVec 32 := Scalar.muli v414 c1_i32_362
  let v418 : BitVec 32 := Scalar.addi c0_i32_363 v417
  v418.toNat
def k0_dev50 (d0 : Dev nD) : Nat :=
  let c0_i32_372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_366 : BitVec 32 := 18#32
  let v425 : BitVec 32 := Scalar.addi v2 c18_i32_366
  let c32_i32_367 : BitVec 32 := 32#32
  let v426 : BitVec 32 := Scalar.remsi v425 c32_i32_367
  let c1_i32_371 : BitVec 32 := 1#32
  let v429 : BitVec 32 := Scalar.muli v426 c1_i32_371
  let v430 : BitVec 32 := Scalar.addi c0_i32_372 v429
  v430.toNat
def k0_dev51 (d0 : Dev nD) : Nat :=
  let c0_i32_381 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_375 : BitVec 32 := 19#32
  let v437 : BitVec 32 := Scalar.addi v2 c19_i32_375
  let c32_i32_376 : BitVec 32 := 32#32
  let v438 : BitVec 32 := Scalar.remsi v437 c32_i32_376
  let c1_i32_380 : BitVec 32 := 1#32
  let v441 : BitVec 32 := Scalar.muli v438 c1_i32_380
  let v442 : BitVec 32 := Scalar.addi c0_i32_381 v441
  v442.toNat
def k0_dev52 (d0 : Dev nD) : Nat :=
  let c0_i32_390 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_384 : BitVec 32 := 20#32
  let v449 : BitVec 32 := Scalar.addi v2 c20_i32_384
  let c32_i32_385 : BitVec 32 := 32#32
  let v450 : BitVec 32 := Scalar.remsi v449 c32_i32_385
  let c1_i32_389 : BitVec 32 := 1#32
  let v453 : BitVec 32 := Scalar.muli v450 c1_i32_389
  let v454 : BitVec 32 := Scalar.addi c0_i32_390 v453
  v454.toNat
def k0_dev53 (d0 : Dev nD) : Nat :=
  let c0_i32_399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_393 : BitVec 32 := 21#32
  let v461 : BitVec 32 := Scalar.addi v2 c21_i32_393
  let c32_i32_394 : BitVec 32 := 32#32
  let v462 : BitVec 32 := Scalar.remsi v461 c32_i32_394
  let c1_i32_398 : BitVec 32 := 1#32
  let v465 : BitVec 32 := Scalar.muli v462 c1_i32_398
  let v466 : BitVec 32 := Scalar.addi c0_i32_399 v465
  v466.toNat
def k0_dev54 (d0 : Dev nD) : Nat :=
  let c0_i32_408 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_402 : BitVec 32 := 22#32
  let v473 : BitVec 32 := Scalar.addi v2 c22_i32_402
  let c32_i32_403 : BitVec 32 := 32#32
  let v474 : BitVec 32 := Scalar.remsi v473 c32_i32_403
  let c1_i32_407 : BitVec 32 := 1#32
  let v477 : BitVec 32 := Scalar.muli v474 c1_i32_407
  let v478 : BitVec 32 := Scalar.addi c0_i32_408 v477
  v478.toNat
def k0_dev55 (d0 : Dev nD) : Nat :=
  let c0_i32_417 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_411 : BitVec 32 := 23#32
  let v485 : BitVec 32 := Scalar.addi v2 c23_i32_411
  let c32_i32_412 : BitVec 32 := 32#32
  let v486 : BitVec 32 := Scalar.remsi v485 c32_i32_412
  let c1_i32_416 : BitVec 32 := 1#32
  let v489 : BitVec 32 := Scalar.muli v486 c1_i32_416
  let v490 : BitVec 32 := Scalar.addi c0_i32_417 v489
  v490.toNat
def k0_dev56 (d0 : Dev nD) : Nat :=
  let c0_i32_426 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_420 : BitVec 32 := 24#32
  let v497 : BitVec 32 := Scalar.addi v2 c24_i32_420
  let c32_i32_421 : BitVec 32 := 32#32
  let v498 : BitVec 32 := Scalar.remsi v497 c32_i32_421
  let c1_i32_425 : BitVec 32 := 1#32
  let v501 : BitVec 32 := Scalar.muli v498 c1_i32_425
  let v502 : BitVec 32 := Scalar.addi c0_i32_426 v501
  v502.toNat
def k0_dev57 (d0 : Dev nD) : Nat :=
  let c0_i32_435 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_429 : BitVec 32 := 25#32
  let v509 : BitVec 32 := Scalar.addi v2 c25_i32_429
  let c32_i32_430 : BitVec 32 := 32#32
  let v510 : BitVec 32 := Scalar.remsi v509 c32_i32_430
  let c1_i32_434 : BitVec 32 := 1#32
  let v513 : BitVec 32 := Scalar.muli v510 c1_i32_434
  let v514 : BitVec 32 := Scalar.addi c0_i32_435 v513
  v514.toNat
def k0_dev58 (d0 : Dev nD) : Nat :=
  let c0_i32_444 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_438 : BitVec 32 := 26#32
  let v521 : BitVec 32 := Scalar.addi v2 c26_i32_438
  let c32_i32_439 : BitVec 32 := 32#32
  let v522 : BitVec 32 := Scalar.remsi v521 c32_i32_439
  let c1_i32_443 : BitVec 32 := 1#32
  let v525 : BitVec 32 := Scalar.muli v522 c1_i32_443
  let v526 : BitVec 32 := Scalar.addi c0_i32_444 v525
  v526.toNat
def k0_dev59 (d0 : Dev nD) : Nat :=
  let c0_i32_453 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_447 : BitVec 32 := 27#32
  let v533 : BitVec 32 := Scalar.addi v2 c27_i32_447
  let c32_i32_448 : BitVec 32 := 32#32
  let v534 : BitVec 32 := Scalar.remsi v533 c32_i32_448
  let c1_i32_452 : BitVec 32 := 1#32
  let v537 : BitVec 32 := Scalar.muli v534 c1_i32_452
  let v538 : BitVec 32 := Scalar.addi c0_i32_453 v537
  v538.toNat
def k0_dev60 (d0 : Dev nD) : Nat :=
  let c0_i32_462 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_456 : BitVec 32 := 28#32
  let v545 : BitVec 32 := Scalar.addi v2 c28_i32_456
  let c32_i32_457 : BitVec 32 := 32#32
  let v546 : BitVec 32 := Scalar.remsi v545 c32_i32_457
  let c1_i32_461 : BitVec 32 := 1#32
  let v549 : BitVec 32 := Scalar.muli v546 c1_i32_461
  let v550 : BitVec 32 := Scalar.addi c0_i32_462 v549
  v550.toNat
def k0_dev61 (d0 : Dev nD) : Nat :=
  let c0_i32_471 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_465 : BitVec 32 := 29#32
  let v557 : BitVec 32 := Scalar.addi v2 c29_i32_465
  let c32_i32_466 : BitVec 32 := 32#32
  let v558 : BitVec 32 := Scalar.remsi v557 c32_i32_466
  let c1_i32_470 : BitVec 32 := 1#32
  let v561 : BitVec 32 := Scalar.muli v558 c1_i32_470
  let v562 : BitVec 32 := Scalar.addi c0_i32_471 v561
  v562.toNat
def k0_dev62 (d0 : Dev nD) : Nat :=
  let c0_i32_480 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_474 : BitVec 32 := 30#32
  let v569 : BitVec 32 := Scalar.addi v2 c30_i32_474
  let c32_i32_475 : BitVec 32 := 32#32
  let v570 : BitVec 32 := Scalar.remsi v569 c32_i32_475
  let c1_i32_479 : BitVec 32 := 1#32
  let v573 : BitVec 32 := Scalar.muli v570 c1_i32_479
  let v574 : BitVec 32 := Scalar.addi c0_i32_480 v573
  v574.toNat
def k0_dev63 (d0 : Dev nD) : Nat :=
  let c0_i32_489 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_483 : BitVec 32 := 31#32
  let v581 : BitVec 32 := Scalar.addi v2 c31_i32_483
  let c32_i32_484 : BitVec 32 := 32#32
  let v582 : BitVec 32 := Scalar.remsi v581 c32_i32_484
  let c1_i32_488 : BitVec 32 := 1#32
  let v585 : BitVec 32 := Scalar.muli v582 c1_i32_488
  let v586 : BitVec 32 := Scalar.addi c0_i32_489 v585
  v586.toNat
def k0_off5 (d0 : Dev nD) (c0_i32 : BitVec 32) (c3_i32_498 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c1_i32_0 : BitVec 32 := 1#32
  let v4 : BitVec 32 := Scalar.subi v3 c1_i32_0
  let v5 : BitVec 32 := Scalar.subi v4 c0_i32
  let c16_i32 : BitVec 32 := 16#32
  let v6 : BitVec 32 := Scalar.addi v5 c16_i32
  let c8_i32 : BitVec 32 := 8#32
  let v7 : BitVec 32 := Scalar.remsi v6 c8_i32
  let c4_i32_497 : BitVec 32 := 4#32
  let v598 : BitVec 32 := Scalar.muli v7 c4_i32_497
  let v599 : BitVec 32 := Scalar.addi v598 c3_i32_498
  ![v599.toNat]
def k0_off6 (d0 : Dev nD) (c0_i32 : BitVec 32) (c3_i32_498 : BitVec 32) : Fin 2 → Nat :=
  let c0_i32_503 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c1_i32_0 : BitVec 32 := 1#32
  let v4 : BitVec 32 := Scalar.subi v3 c1_i32_0
  let v5 : BitVec 32 := Scalar.subi v4 c0_i32
  let c16_i32 : BitVec 32 := 16#32
  let v6 : BitVec 32 := Scalar.addi v5 c16_i32
  let c8_i32 : BitVec 32 := 8#32
  let v7 : BitVec 32 := Scalar.remsi v6 c8_i32
  let c4_i32_497 : BitVec 32 := 4#32
  let v598 : BitVec 32 := Scalar.muli v7 c4_i32_497
  let v599 : BitVec 32 := Scalar.addi v598 c3_i32_498
  let c128_i32_499 : BitVec 32 := 128#32
  let v600 : BitVec 32 := Scalar.muli v599 c128_i32_499
  ![0, v600.toNat]
def k0_off7 (d0 : Dev nD) (c0_i32 : BitVec 32) : Fin 2 → Nat :=
  let c0 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c1_i32_0 : BitVec 32 := 1#32
  let v4 : BitVec 32 := Scalar.subi v3 c1_i32_0
  let v5 : BitVec 32 := Scalar.subi v4 c0_i32
  let c16_i32 : BitVec 32 := 16#32
  let v6 : BitVec 32 := Scalar.addi v5 c16_i32
  let c8_i32 : BitVec 32 := 8#32
  let v7 : BitVec 32 := Scalar.remsi v6 c8_i32
  let c512_i32_533 : BitVec 32 := 512#32
  let v634 : BitVec 32 := Scalar.muli v7 c512_i32_533
  let v635 : Index := Scalar.indexCast v634
  ![0, v635.toNat]
abbrev stage0_0 : Fin 1 → Memref sig .tc .vmem S4096x128 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x8192, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x8192, .i32⟩
  | .hbm, ⟨7, _⟩ => ⟨S4096x8192, .f32⟩
  | .hbm, ⟨8, _⟩ => ⟨S4096x8192, .f32⟩
  | .hbm, ⟨9, _⟩ => ⟨S1, .f32⟩
  | .hbm, ⟨10, _⟩ => ⟨S1x1, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096x8192, .f32⟩
  | .hbm, ⟨17, _⟩ => ⟨S4096x8192, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S4096x8192, .f32⟩
  | .hbm, ⟨22, _⟩ => ⟨S4096x8192, .f32⟩
  | .hbm, ⟨23, _⟩ => ⟨S_, .f32⟩
  | .hbm, ⟨24, _⟩ => ⟨S4096x8192, .f32⟩
  | .hbm, ⟨25, _⟩ => ⟨S4096x8192, .f32⟩
  | .hbm, ⟨26, _⟩ => ⟨S4096x8192, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]
-- ==== Proof.Loop.lean ====
/-
  The program of one device, written with loops over the chunk index, the peer distance and the
  block index, and the proof that the printed body is that program.
-/
module

public import proofs.«01_k».proof.Proof.Gen.KernelIdeal
public import proofs.«01_k».proof.Proof.Gen.KernelIdeal.Skeleton

@[expose] public section

set_option maxRecDepth 65536

noncomputable section

namespace Cert.KernelIdeal.Hand

open Idealize.ShloMosaic Idealize.ShloMosaic.TcCoe Idealize.SL Sem
open Cert.KernelIdeal Cert.KernelIdeal.Gen

variable {F : FTy → Type} [FloatOps F]

/-! ### The buffers and their parts -/

abbrev xM : Memref sig .tc .vmem S4096x128 .i8 := Memref.whole cc0_stg0_0
abbrev wM : Memref sig .tc .hbm S4096x8192 .i8 := Memref.whole main_arg1
abbrev sxM : Memref sig .tc .smem S1 .f32 := Memref.whole cc0_stg1_0
abbrev swM : Memref sig .tc .smem S1 .f32 := Memref.whole cc0_stg2_0
abbrev oM : Memref sig .tc .vmem S128x8192 .f32 := Memref.whole cc0_stg3_0
abbrev gM : Memref sig .tc .vmem S128x4096 .i8 := Memref.whole cc0_scratch0
abbrev bM : Memref sig .tc .vmem S8x512x8192 .i8 := Memref.whole cc0_scratch1

/-- The rows of the weight that step `t` of device `c` multiplies with. -/
abbrev wRect (c : Dev nD) (t : Fin 8) : Rect S4096x8192 :=
  Rect.unit (s := S4096x8192) (k0_off1 c (BitVec.ofNat 32 t.val)) S512x8192.size (k0_off1_inb c t)

theorem slab_inb (t : Fin 8) : ∀ a, (![t.val, 0, 0] : Fin 3 → ℕ) a + S1x512x8192.size a ≤ S8x512x8192.size a := by
  revert t; decide
theorem slab_words (t : Fin 8) :
    (Rect.unit (s := S8x512x8192) ![t.val, 0, 0] S1x512x8192.size (slab_inb t)).WholeWords (EltTy.packing .i8) := by
  revert t; decide +kernel

abbrev bRect (t : Fin 8) : Rect S8x512x8192 :=
  Rect.unit (s := S8x512x8192) ![t.val, 0, 0] S1x512x8192.size (slab_inb t)
abbrev wSlice (c : Dev nD) (t : Fin 8) : Memref sig .tc .hbm S512x8192 .i8 := wM.slice (wRect c t) (fun _ => rfl)
abbrev bSlice (t : Fin 8) : Memref sig .tc .vmem S512x8192 .i8 :=
  (bM.slice (bRect t) (fun _ => rfl)).squeeze S512x8192 squeezes_S1x512x8192_S512x8192

theorem sem8_inb (t : Fin 8) : ∀ a, (![t.val] : Fin 1 → ℕ) a + S1.size a ≤ S8.size a := by revert t; decide
theorem sem32_inb (d : Fin 32) : ∀ a, (![d.val] : Fin 1 → ℕ) a + S1.size a ≤ S32.size a := by revert d; decide

/-- The semaphore of the copy of step `t`. -/
abbrev wSem (t : Fin 8) : DmaSem sig :=
  ((cc0_scratch4.slice (Rect.unit (s := S8) ![t.val] S1.size (sem8_inb t))).squeeze S_ squeezes_S1_S_).sem
/-- The semaphore the send at distance `d` is counted on. -/
abbrev sSem (d : Fin 32) : DmaSem sig :=
  ((cc0_scratch2.slice (Rect.unit (s := S32) ![d.val] S1.size (sem32_inb d))).squeeze S_ squeezes_S1_S_).sem
/-- The semaphore, on the receiving device, of what device `c` sends. -/
abbrev rSem (c : Dev nD) : DmaSem sig :=
  ((cc0_scratch3.slice (Rect.unit (s := S32) (k0_off2 c) S1.size (k0_off2_inb c))).squeeze S_ squeezes_S1_S_).sem
/-- The same table of semaphores, at block `b` of the chunk of step `t`. -/
abbrev rSemAt (c : Dev nD) (t : Fin 8) (b : Fin 4) : DmaSem sig :=
  ((cc0_scratch3.slice (Rect.unit (s := S32) (k0_off5 c (BitVec.ofNat 32 t.val) (BitVec.ofNat 32 b.val)) S1.size
    (k0_off5_inb c t b))).squeeze S_ squeezes_S1_S_).sem
/-- The barrier semaphore. -/
abbrev barS : Sem sig := (SemArray.scalar (sig.barrier 0 rfl) : Sems sig S_).sem

/-- The block of rows of the activation shard that goes to the device at distance `d`. -/
abbrev xRect (c : Dev nD) (d : Fin 32) : Rect S4096x128 :=
  Rect.unit (s := S4096x128) (k0_off4 c (BitVec.ofNat 32 d.val)) S128x128.size (k0_off4_inb c d)
abbrev xSlice (c : Dev nD) (d : Fin 32) : Memref sig .tc .vmem S128x128 .i8 := xM.slice (xRect c d) (fun _ => rfl)
/-- The block of columns of the gather buffer that device `c` fills. -/
abbrev gRect (c : Dev nD) : Rect S128x4096 := Rect.unit (s := S128x4096) (k0_off3 c) S128x128.size (k0_off3_inb c)
abbrev gSlice (c : Dev nD) : Memref sig .tc .vmem S128x128 .i8 := gM.slice (gRect c) (fun _ => rfl)

/-- The device number the kernel computes for distance `w`. -/
def devW (d0 : Dev nD) (w : BitVec 32) : Nat :=
  let v0 : BitVec 32 := Dev.word d0
  let v1 : BitVec 32 := Scalar.divsi v0 1#32
  let v2 : BitVec 32 := Scalar.remsi v1 32#32
  let v89 : BitVec 32 := Scalar.addi v2 w
  let v90 : BitVec 32 := Scalar.remsi v89 32#32
  let v91 : BitVec 32 := Scalar.muli v90 1#32
  let v92 : BitVec 32 := Scalar.addi 0#32 v91
  v92.toNat

theorem devW_eq : ∀ (c : Dev nD) (d : Fin 32), devW c (BitVec.ofNat 32 d.val) = (c.val + d.val) % 32 := by
  decide +kernel
theorem devW_lt (c : Dev nD) (d : Fin 32) : devW c (BitVec.ofNat 32 d.val) < nD := by
  rw [devW_eq]; exact Nat.mod_lt _ (by decide)

/-- The device at distance `d` after `c`. -/
abbrev peer (c : Dev nD) (d : Fin 32) : Dev nD := ⟨devW c (BitVec.ofNat 32 d.val), devW_lt c d⟩

/-! ### The operations -/

abbrev PK := Prog (TpuEff nD τ sig (Elt F) Λ₀ .tc) PUnit

def copyOp (c : Dev nD) (t : Fin 8) (k : PK (F := F)) : PK (F := F) :=
  .op (.enqueueDma (wSlice c t) (.here (bSlice t)) (.dma (wSem t))
    ((Memref.isWhole_whole _ : wM.IsWhole).wordExact_slice rfl _ (k0_off1_wordsi8 c t))
    (((Memref.isWhole_whole _ : bM.IsWhole).wordExact_slice rfl _ (slab_words t)).reshape _ _) ⟨Or.inl rfl, trivial⟩) fun _ => k

def signalOp (c : Dev nD) (d : Fin 32) (k : PK (F := F)) : PK (F := F) :=
  .op (.semSignal (peer c d : Thread nD τ) barS (1#32 : BitVec 32).toInt) fun _ => k

def barWaitOp (k : PK (F := F)) : PK (F := F) := (semWaitWord barS 31#32).bind fun _ => k

def sendOp (c : Dev nD) (d : Fin 32) (k : PK (F := F)) : PK (F := F) :=
  .op (.enqueueDma (xSlice c d) (.remote (Dev.tc (peer c d)) (gSlice c) (.dma (sSem d))) (.dma (rSem c))
    ((Memref.isWhole_whole _ : xM.IsWhole).wordExact_slice rfl _ (k0_off4_wordsi8 c d))
    ((Memref.isWhole_whole _ : gM.IsWhole).wordExact_slice rfl _ (k0_off3_wordsi8 c)) ⟨⟨rfl, Or.inl rfl⟩, trivial⟩) fun _ => k

def wWaitOp (c : Dev nD) (t : Fin 8) (k : PK (F := F)) : PK (F := F) :=
  .op (.waitDma2 (wSem t) (wSlice c t) (bSlice t)
    ((Memref.isWhole_whole _ : wM.IsWhole).wordExact_slice rfl _ (k0_off1_wordsi8 c t))
    (((Memref.isWhole_whole _ : bM.IsWhole).wordExact_slice rfl _ (slab_words t)).reshape _ _)) fun _ => k

abbrev gAt (c : Dev nD) (t : Fin 8) (b : Fin 4) : Memref sig .tc .vmem S128x128 .i8 :=
  gM.slice (Rect.unit (s := S128x4096) (k0_off6 c (BitVec.ofNat 32 t.val) (BitVec.ofNat 32 b.val)) S128x128.size
    (k0_off6_inb c t b)) (fun _ => rfl)

def bWaitOp (c : Dev nD) (t : Fin 8) (b : Fin 4) (k : PK (F := F)) : PK (F := F) :=
  .op (.waitDma2 (rSemAt c t b)
    (xM.slice (Rect.unit (s := S4096x128) ![0, 0] S128x128.size inb_S4096x128_S128x128_0_0) (fun _ => rfl)) (gAt c t b)
    ((Memref.isWhole_whole _ : xM.IsWhole).wordExact_slice rfl _ wordsi8_S4096x128_S128x128_0_0)
    ((Memref.isWhole_whole _ : gM.IsWhole).wordExact_slice rfl _ (k0_off6_wordsi8 c t b))) fun _ => k

abbrev gLoad (c : Dev nD) (t : Fin 8) : Rect S128x4096 :=
  Rect.unit (s := S128x4096) (k0_off7 c (BitVec.ofNat 32 t.val)) S128x512.size (k0_off7_inb c t)

def stepOp (c : Dev nD) (t : Fin 8) (k : Vec F S128x512 .i8 → Vec F S1x512x8192 .i8 → PK (F := F)) : PK (F := F) :=
  wWaitOp c t ([3, 2, 1, 0].foldr (bWaitOp c t)
    (.op (.load gM (gLoad c t).toLoadRect (View.loadsAt_vmem h_S128x512)) fun g =>
      .op (.load bM (bRect t).toLoadRect (View.loadsAt_vmem h_S1x512x8192)) fun w => k g w))

abbrev oRect : Rect S128x8192 := Rect.unit (s := S128x8192) ![0, 0] S128x8192.size inb_S128x8192_S128x8192_0_0

def finOp (v929 : IVec S128x8192 32) (v973 : Vec F S128x512 .i8) (v974 : Vec F S1x512x8192 .i8) (k : PK (F := F)) : PK (F := F) :=
  (smemLoad sxM (Rect.unit (s := S1) ![0] S1.size inb_S1_S1_0) numel1_S1 rfl).bind fun v978 =>
  (smemLoad swM (Rect.unit (s := S1) ![0] S1.size inb_S1_S1_0) numel1_S1 rfl).bind fun v979 =>
  .op (.load oM oRect.toLoadRect (View.loadsAt_vmem h_S128x8192)) fun _ =>
  .op (.store oM oRect (k0_pay8 v929 v973 v974 v978 v979) Finset.univ (View.stores_vmem_bits_univ h_S128x8192 rfl) (.inl rfl))
    fun _ => k

def sWaitOp (c : Dev nD) (d : Fin 32) (k : PK (F := F)) : PK (F := F) :=
  .op (.waitDma2 (sSem d) (gSlice c) (xSlice c d)
    ((Memref.isWhole_whole _ : gM.IsWhole).wordExact_slice rfl _ (k0_off3_wordsi8 c))
    ((Memref.isWhole_whole _ : xM.IsWhole).wordExact_slice rfl _ (k0_off4_wordsi8 c d))) fun _ => k

/-! ### The program -/

def list8 : List (Fin 8) := [0, 1, 2, 3, 4, 5, 6, 7]
def list31 : List (Fin 32) :=
  [1, 2, 3, 4, 5, 6, 7, 8, 9, 10, 11, 12, 13, 14, 15, 16, 17, 18, 19, 20, 21, 22, 23, 24, 25, 26, 27, 28, 29, 30, 31]
def list32 : List (Fin 32) := 0 :: list31

def compute (c : Dev nD) (k : PK (F := F)) : PK (F := F) :=
  stepOp c 0 fun g w => stepOp c 1 fun g1 w1 => stepOp c 2 fun g2 w2 => stepOp c 3 fun g3 w3 =>
  stepOp c 4 fun g4 w4 => stepOp c 5 fun g5 w5 => stepOp c 6 fun g6 w6 => stepOp c 7 fun g7 w7 =>
  finOp (k0_pay7 (k0_pay6 (k0_pay5 (k0_pay4 (k0_pay3 (k0_pay2 (k0_pay1 g w) g1 w1) g2 w2) g3 w3) g4 w4) g5 w5) g6 w6)
    g7 w7 k

def prog : PK (F := F) :=
  .op .deviceId fun c =>
  list8.foldr (copyOp c) <| list31.foldr (signalOp c) <| barWaitOp <| list32.foldr (sendOp c) <| compute c <|
  list32.foldr (sWaitOp c) (.ret ⟨⟩)

theorem body_eq :
    cc0_body (F := F) xM (Memref.isWhole_whole _) wM (Memref.isWhole_whole _) sxM (Memref.isWhole_whole _)
      swM (Memref.isWhole_whole _) oM (Memref.isWhole_whole _) gM (Memref.isWhole_whole _) bM (Memref.isWhole_whole _)
      cc0_scratch2 cc0_scratch3 cc0_scratch4 = prog := by
  rfl

end Cert.KernelIdeal.Hand
-- ==== Proof.Protocol.lean ====
/-
  The protocol of the kernel: the semaphores' cells, what each payment hands over, the levels that order the waits, and
  what a device owes at its start. Every cell has one round.
-/
module

public import proofs.«01_k».proof.Proof.Loop
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Rounds
public import Idealize.ShloMosaic.Lib.Ring
public import Idealize.ShloMosaic.Lib.ValueIdxCore
public import Idealize.ShloMosaic.Lib.Tactic

@[expose] public section

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ### Peers and blocks -/

theorem peer_val (c : Dev nD) (d : Fin 32) : (peer c d).val = (c.val + d.val) % 32 := devW_eq c d

/-- The distances of a device, one per peer. -/
def peerE (c : Dev nD) : Fin 32 ≃ Dev nD where
  toFun d := peer c d
  invFun p := ⟨(p.val + 32 - c.val) % 32, Nat.mod_lt _ (by decide)⟩
  left_inv d := by
    apply Fin.ext
    have h := peer_val c d
    have hc : c.val < 32 := c.isLt
    have hd : d.val < 32 := d.isLt
    show ((peer c d).val + 32 - c.val) % 32 = d.val
    rw [h]; omega
  right_inv p := by
    apply Fin.ext
    have hc : c.val < 32 := c.isLt
    have hp : p.val < 32 := p.isLt
    rw [peer_val]
    show (c.val + (p.val + 32 - c.val) % 32) % 32 = p.val
    omega

theorem peerE_apply (c : Dev nD) (d : Fin 32) : peerE c d = peer c d := rfl
theorem peer_zero (c : Dev nD) : peer c 0 = c := by
  apply Fin.ext; rw [peer_val]; exact Nat.mod_eq_of_lt c.isLt
theorem peer_ne (c : Dev nD) {d : Fin 32} (hd : d ≠ 0) : peer c d ≠ c := fun h =>
  hd ((peerE c).injective (h.trans (peer_zero c).symm))

/-- The block of columns that step `t` of device `c` waits for at its position `b`. -/
def blk (c : Dev nD) (t : Fin 8) (b : Fin 4) : Dev nD :=
  ⟨4 * ((c.val / 4 + 15 - t.val) % 8) + b.val, by have := b.isLt; show _ < 32; omega⟩

/-! ### The cells -/

/-- A device's own scratch semaphores: sends, receives, weight copies; -/
abbrev OK := (Fin 32 ⊕ Fin 32) ⊕ Fin 8
/-- and those with the barrier. -/
abbrev CK := Unit ⊕ OK

abbrev osem : OK → SemLoc sig
  | .inl (.inl d) => .dma (sSem d)
  | .inl (.inr j) => .dma (rSem j)
  | .inr t => .dma (wSem t)
abbrev csem : CK → SemLoc sig
  | .inl _ => .reg barS
  | .inr k => osem k

theorem sSem_val : ∀ d : Fin 32, (sSem d).val = 4 + d.val := by decide +kernel
theorem rSem_val : ∀ j : Dev nD, (rSem j).val = 36 + j.val := by decide +kernel
theorem wSem_val : ∀ t : Fin 8, (wSem t).val = 68 + t.val := by decide +kernel
theorem rSemAt_val : ∀ (c : Dev nD) (t : Fin 8) (b : Fin 4), (rSemAt c t b).val = 36 + (blk c t b).val := by decide +kernel

theorem rSemAt_eq (c : Dev nD) (t : Fin 8) (b : Fin 4) : rSemAt c t b = rSem (blk c t b) :=
  Fin.ext ((rSemAt_val c t b).trans (rSem_val _).symm)

/-- The number of a scratch semaphore among the device's transfer semaphores. -/
def onum : OK → ℕ
  | .inl (.inl d) => 4 + d.val
  | .inl (.inr j) => 36 + j.val
  | .inr t => 68 + t.val

theorem osem_eq : ∀ k : OK, ∃ q : DmaSem sig, osem k = .dma q ∧ q.val = onum k
  | .inl (.inl d) => ⟨_, rfl, sSem_val d⟩
  | .inl (.inr j) => ⟨_, rfl, rSem_val j⟩
  | .inr t => ⟨_, rfl, wSem_val t⟩

theorem onum_injective : Function.Injective onum := by
  rintro ((a | a) | a) ((b | b) | b) h <;> simp only [onum] at h <;>
    first
      | (have e : a = b := Fin.ext (by omega)
         rw [e]; done)
      | (exfalso; have h1 : a.val < 32 := a.isLt; have h2 : b.val < 32 := b.isLt; omega)
      | (exfalso; have h1 : a.val < 32 := a.isLt; omega)
      | (exfalso; have h2 : b.val < 32 := b.isLt; omega)

theorem osem_injective : Function.Injective osem := fun k k' h => by
  obtain ⟨q, hq, e⟩ := osem_eq k
  obtain ⟨q', hq', e'⟩ := osem_eq k'
  rw [hq, hq'] at h
  injection h with h
  exact onum_injective (by rw [← e, ← e', h])

theorem osem_ne_bar (k : OK) : osem k ≠ .reg barS := fun h => by
  obtain ⟨q, hq, -⟩ := osem_eq k
  rw [hq] at h; cases h

theorem csem_injective : Function.Injective csem := by
  rintro (_ | k) (_ | k') h
  · rfl
  · exact absurd (Eq.symm h) (osem_ne_bar k')
  · exact absurd h (osem_ne_bar k)
  · exact congrArg Sum.inr (osem_injective h)

abbrev kcell (ck : Dev nD × CK) : GSem nD τ sig := ((ck.1 : Thread nD τ), csem ck.2)
abbrev barCell (c : Dev nD) : GSem nD τ sig := kcell (c, .inl ())
abbrev sCell (c : Dev nD) (d : Fin 32) : GSem nD τ sig := kcell (c, .inr (.inl (.inl d)))
abbrev rCell (c j : Dev nD) : GSem nD τ sig := kcell (c, .inr (.inl (.inr j)))
abbrev wCell (c : Dev nD) (t : Fin 8) : GSem nD τ sig := kcell (c, .inr (.inr t))

theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- Which of the cells a semaphore is. -/
def dec (sm : SemLoc sig) : Option CK := preimage? ⟨csem, csem_injective⟩ sm
theorem dec_csem (k : CK) : dec (csem k) = some k := preimage?_emb ⟨csem, csem_injective⟩ k
theorem dec_none {sm : SemLoc sig} (h : ∀ k, csem k ≠ sm) : dec sm = none :=
  preimage?_eq_none (emb := ⟨csem, csem_injective⟩) h

/-! ### The amounts -/

/-- The credit of one 128 × 128 block; -/
def N : ℕ := (gSlice 0).view.dmaCredit
/-- of one 512 × 8192 slab. -/
def NW : ℕ := (bSlice 0).view.dmaCredit
theorem N_pos : 0 < N := View.dmaCredit_pos _ (by decide)
theorem NW_pos : 0 < NW := View.dmaCredit_pos _ (by decide)
theorem credit_g (j : Dev nD) : (gSlice j).view.dmaCredit = N := rfl
theorem credit_x (c : Dev nD) (d : Fin 32) : (xSlice c d).view.dmaCredit = N := rfl
theorem credit_gAt (c : Dev nD) (t : Fin 8) (b : Fin 4) : (gAt c t b).view.dmaCredit = N := rfl
theorem credit_b (t : Fin 8) : (bSlice t).view.dmaCredit = NW := rfl
attribute [irreducible] N NW

/-! ### The contents -/

/-- The activation shard of device `c`, staged; -/
def xstg (c : Dev nD) : (cc0_stg0_0 : Ref sig .tc).ty.Contents (Elt F) :=
  (win0_0.blk (0 : Fin 1)).view.read (Elt F) ((s₀ m ρ).mem ((c : Thread nD τ).loc main_arg0))
/-- the two scales; -/
def sxstg (c : Dev nD) : (cc0_stg1_0 : Ref sig .tc).ty.Contents (Elt F) :=
  (win0_1.blk (0 : Fin 1)).view.read (Elt F) ((s₀ m ρ).mem ((c : Thread nD τ).loc main_arg2))
def swstg (c : Dev nD) : (cc0_stg2_0 : Ref sig .tc).ty.Contents (Elt F) :=
  (win0_2.blk (0 : Fin 1)).view.read (Elt F) ((s₀ m ρ).mem ((c : Thread nD τ).loc main_arg3))
/-- the weight. -/
def wArr (c : Dev nD) : (main_arg1 : Ref sig .tc).ty.Contents (Elt F) := m ((c : Thread nD τ).loc main_arg1)

/-- What device `c` sends to the device at distance `d`. -/
def xBlk (c : Dev nD) (d : Fin 32) : S128x128.Idx → Elt F .i8 := fun i => xstg m ρ c ((xRect c d).emb i)

/-- The gathered activation of device `c`: column block `j` is row block `c` of device `j`'s shard. -/
def gFull (c : Dev nD) : S128x4096.Idx → Elt F .i8 := fun i =>
  xstg m ρ (⟨(i 1).val / 128, by have : (i 1).val < 4096 := (i 1).isLt; show _ < 32; omega⟩ : Dev nD)
    (ix2 (n0 := 4096) (n1 := 128)
      ⟨128 * c.val + (i 0).val, by have h : (i 0).val < 128 := (i 0).isLt; have := c.isLt; simp only [nD] at this; omega⟩
      ⟨(i 1).val % 128, Nat.mod_lt _ (by decide)⟩)

/-- The weight rows of step `t`. -/
def wv (c : Dev nD) (t : Fin 8) : S512x8192.Idx → Elt F .i8 := fun i => wArr m c ((wRect c t).emb i)

theorem gFull_emb (c : Dev nD) (d : Fin 32) (i : S128x128.Idx) :
    gFull m ρ (peer c d) ((gRect c).emb i) = xBlk m ρ c d i := by
  have h0 : (i 0).val < 128 := (i 0).isLt
  have h1 : (i 1).val < 128 := (i 1).isLt
  have e0 : ((gRect c).emb i 0).val = (i 0).val := by
    show k0_off3 c 0 + 1 * (i 0).val = _
    rw [k0_off3_eq]; show 0 + 1 * (i 0).val = _; omega
  have e1 : ((gRect c).emb i 1).val = 128 * c.val + (i 1).val := by
    show k0_off3 c 1 + 1 * (i 1).val = _
    rw [k0_off3_eq]; show 128 * c.val + 1 * (i 1).val = _; omega
  have hd : ((gRect c).emb i 1).val / 128 = c.val := by omega
  have f0 : ((xRect c d).emb i 0).val = 128 * ((c.val + d.val) % 32) + (i 0).val := by
    show k0_off4 c (BitVec.ofNat 32 d.val) 0 + 1 * (i 0).val = _
    rw [k0_off4_eq]; show 128 * ((c.val + d.val) % 32) + 1 * (i 0).val = _; omega
  have f1 : ((xRect c d).emb i 1).val = (i 1).val := by
    show k0_off4 c (BitVec.ofNat 32 d.val) 1 + 1 * (i 1).val = _
    rw [k0_off4_eq]; show 0 + 1 * (i 1).val = _; omega
  unfold gFull xBlk
  congr 1
  · exact Fin.ext hd
  · funext a
    match a with
    | ⟨0, _⟩ =>
      apply Fin.ext
      show 128 * (peer c d).val + ((gRect c).emb i 0).val = ((xRect c d).emb i 0).val
      rw [peer_val, e0, f0]
    | ⟨1, _⟩ =>
      apply Fin.ext
      show ((gRect c).emb i 1).val % 128 = ((xRect c d).emb i 1).val
      rw [e1, f1]; omega

/-- Block `j` of the gather buffer of device `p`, at some contents; -/
def gAny (p j : Dev nD) : sProp 𝕄 :=
  iprop(∃ f, (gSlice j).view.loc (p : Thread nD τ) ↦[(gSlice j).view.set]{fullShare} f)
/-- holding what device `j` sends; -/
def gOwn (p j : Dev nD) : sProp 𝕄 := owns (p : Thread nD τ) (gSlice j) fullShare (fun i => gFull m ρ p ((gRect j).emb i))
/-- the row block at distance `d` of device `c`'s shard; -/
def xOwn (c : Dev nD) (d : Fin 32) : sProp 𝕄 := owns (c : Thread nD τ) (xSlice c d) fullShare (xBlk m ρ c d)
/-- the weight rows of step `t`; -/
def wOwn (c : Dev nD) (t : Fin 8) : sProp 𝕄 := owns (c : Thread nD τ) (wSlice c t) fullShare (wv m c t)
/-- slab `t` of the weight buffer at some contents; -/
def bAny (c : Dev nD) (t : Fin 8) : sProp 𝕄 :=
  iprop(∃ f, (bSlice t).view.loc (c : Thread nD τ) ↦[(bSlice t).view.set]{fullShare} f)
/-- holding the weight rows of step `t`. -/
def bOwn (c : Dev nD) (t : Fin 8) : sProp 𝕄 := owns (c : Thread nD τ) (bSlice t) fullShare (wv m c t)

instance gAny_storable (p j : Dev nD) : BI.Storable (upEmb : UEmb _ 𝕄) (gAny (F := F) p j) := by unfold gAny; infer_instance
instance gOwn_storable (p j : Dev nD) : BI.Storable (upEmb : UEmb _ 𝕄) (gOwn (F := F) m ρ p j) := by unfold gOwn; infer_instance
instance xOwn_storable (c : Dev nD) (d : Fin 32) : BI.Storable (upEmb : UEmb _ 𝕄) (xOwn (F := F) m ρ c d) := by unfold xOwn; infer_instance
instance wOwn_storable (c : Dev nD) (t : Fin 8) : BI.Storable (upEmb : UEmb _ 𝕄) (wOwn (F := F) m c t) := by unfold wOwn; infer_instance
instance bOwn_storable (c : Dev nD) (t : Fin 8) : BI.Storable (upEmb : UEmb _ 𝕄) (bOwn (F := F) m c t) := by unfold bOwn; infer_instance

/-! ### The schedule -/

def dutiesK (c : Dev nD) : CK → Finset (Fin 32)
  | .inl _ => Finset.univ.erase c
  | .inr _ => {0}
def amountK : CK → ℕ
  | .inl _ => 1
  | .inr (.inl _) => N
  | .inr (.inr _) => NW
theorem amountK_pos : ∀ k : CK, 0 < amountK k
  | .inl _ => Nat.one_pos
  | .inr (.inl _) => N_pos
  | .inr (.inr _) => NW_pos
/-- Device `p` pays the barrier of `c` with its own gather block for `c`; a send gives the row block back, a receive the
    filled gather block, a copy the filled slab and the weight rows. -/
def payK (c : Dev nD) : CK → Fin 32 → sProp 𝕄
  | .inl _, p => gAny p c
  | .inr (.inl (.inl d)), _ => xOwn m ρ c d
  | .inr (.inl (.inr j)), _ => gOwn m ρ c j
  | .inr (.inr t), _ => iprop(bOwn m c t ∗ wOwn m c t)

instance payK_storable (c : Dev nD) : ∀ (k : CK) (d : Fin 32), BI.Storable (upEmb : UEmb _ 𝕄) (payK (F := F) m ρ c k d)
  | .inl _, p => gAny_storable p c
  | .inr (.inl (.inl d)), _ => xOwn_storable m ρ c d
  | .inr (.inl (.inr j)), _ => gOwn_storable m ρ c j
  | .inr (.inr t), _ => (inferInstance : BI.Storable (upEmb : UEmb _ 𝕄) iprop(bOwn m c t ∗ wOwn m c t))

def ringRd : Rounds.Schedule (GSem nD τ sig) (Fin 32) 𝕄 where
  duties g r := if r = 0 ∧ g.1.2 = .tc then (dec g.2).elim ∅ (dutiesK g.1.1) else ∅
  unitless _ := False
  amount g _ _ := (dec g.2).elim 1 amountK
  payload g _ d := (dec g.2).elim iprop(emp) (fun k => payK m ρ g.1.1 k d)
  amount_pos g _ _ _ := by
    cases dec g.2 with
    | none => exact Nat.one_pos
    | some k => exact amountK_pos k

instance ringRd_payload_storable (g : GSem nD τ sig) (r : ℕ) (d : Fin 32) :
    BI.Storable (upEmb : UEmb _ 𝕄) ((ringRd (F := F) m ρ).payload g r d) := by
  show BI.Storable upEmb ((dec g.2).elim iprop(emp) (fun k => payK m ρ g.1.1 k d))
  cases dec g.2 with
  | none => exact (inferInstance : BI.Storable (upEmb : UEmb _ 𝕄) iprop(emp))
  | some k => exact payK_storable m ρ g.1.1 k d

theorem duties_k (c : Dev nD) (k : CK) : (ringRd (F := F) m ρ).duties (kcell (c, k)) 0 = dutiesK c k := by
  show (if (0 : ℕ) = 0 ∧ (kcell (c, k)).1.2 = .tc then (dec (csem k)).elim ∅ (dutiesK c) else ∅) = _
  rw [if_pos ⟨rfl, rfl⟩, dec_csem]; rfl
theorem duties_later (g : GSem nD τ sig) : ∀ r, 1 ≤ r → (ringRd (F := F) m ρ).duties g r = ∅ :=
  fun r hr => by
    show (if r = 0 ∧ g.1.2 = .tc then (dec g.2).elim ∅ (dutiesK g.1.1) else ∅) = _
    rw [if_neg fun h => by omega]
theorem amount_k (c : Dev nD) (k : CK) (d : Fin 32) : (ringRd (F := F) m ρ).amount (kcell (c, k)) 0 d = amountK k := by
  show (dec (csem k)).elim 1 amountK = _
  rw [dec_csem]; rfl
theorem payload_k (c : Dev nD) (k : CK) (d : Fin 32) : (ringRd (F := F) m ρ).payload (kcell (c, k)) 0 d = payK m ρ c k d := by
  show (dec (csem k)).elim iprop(emp) (fun k => payK m ρ c k d) = _
  rw [dec_csem]; rfl

theorem payload_bar (c p : Dev nD) : (ringRd (F := F) m ρ).payload (barCell c) 0 p = gAny p c := payload_k m ρ c (.inl ()) p

theorem expect_bar (c : Dev nD) : (ringRd (F := F) m ρ).expect (barCell c) 0 = 31 := by
  unfold Schedule.expect Schedule.amountOf
  rw [Finset.sum_congr rfl fun d _ => amount_k m ρ c (.inl ()) d, duties_k]
  show ∑ _d ∈ Finset.univ.erase c, 1 = 31
  rw [Finset.sum_const, Finset.card_erase_of_mem (Finset.mem_univ _), Finset.card_univ]
  show (Fintype.card (Fin 32) - 1) • 1 = 31
  rw [Fintype.card_fin]; rfl
theorem expect_o (c : Dev nD) (k : OK) : (ringRd (F := F) m ρ).expect (kcell (c, .inr k)) 0 = amountK (.inr k) := by
  unfold Schedule.expect Schedule.amountOf
  rw [duties_k]
  show ∑ d ∈ ({0} : Finset (Fin 32)), _ = _
  rw [Finset.sum_singleton, amount_k]
theorem rest_bar (c : Dev nD) :
    bigSep ((ringRd (F := F) m ρ).duties (barCell c) 0 \ ∅) (fun d => (ringRd (F := F) m ρ).payload (barCell c) 0 d)
      = bigSep (Finset.univ.erase c) (fun p : Dev nD => gAny p c) := by
  rw [Finset.sdiff_empty, duties_k]
  exact bigSep_congr fun d _ => payload_k m ρ c (.inl ()) d
theorem rest_o (c : Dev nD) (k : OK) :
    bigSep ((ringRd (F := F) m ρ).duties (kcell (c, .inr k)) 0 \ ∅) (fun d => (ringRd (F := F) m ρ).payload (kcell (c, .inr k)) 0 d)
      = payK m ρ c (.inr k) 0 := by
  rw [Finset.sdiff_empty, duties_k]
  show bigSep ({0} : Finset (Fin 32)) _ = _
  rw [bigSep_singleton, payload_k]

/-! ### What a device owes, and the levels -/

/-- The credit the sends to the distances `l` still give; -/
def owedSend (c : Dev nD) (l : List (Fin 32)) : CellTallies nD τ sig Unit :=
  l.foldr (fun d O => O + tallyAt (rCell (peer c d) c) () N) 0
/-- and that with the signals to the distances `l`. -/
def owedSig (c : Dev nD) (l : List (Fin 32)) : CellTallies nD τ sig Unit :=
  l.foldr (fun d O => O + tallyAt (barCell (peer c d)) () 1) (owedSend c list32)
def O₀ (c : Dev nD) : CellTallies nD τ sig Unit := owedSig c list31

def L (g : GSem nD τ sig) : Finset Unit := if g.1.2 = .tc then {()} else ∅
def lvK : CK → ℕ
  | .inl _ => 1
  | .inr (.inl (.inr _)) => 2
  | _ => 0
/-- Barrier cells at 1, receive cells at 2, everything else at 0. -/
def lv (g : GSem nD τ sig) (_ : Unit) : ℕ := (dec g.2).elim 0 lvK

theorem L_of_ne (g : GSem nD τ sig) (h : g.1.2 ≠ .tc) : L g = ∅ := if_neg h
theorem L_tc (c : Dev nD) (sm : SemLoc sig) : L ((c : Thread nD τ), sm) = {()} := if_pos rfl
theorem lv_k (c : Dev nD) (k : CK) (u : Unit) : lv (kcell (c, k)) u = lvK k := by
  show (dec (csem k)).elim 0 lvK = _
  rw [dec_csem]; rfl

theorem tally_pos {g g' : GSem nD τ sig} {u : Unit} {n : ℕ} (h : 0 < (tallyAt g' () n : CellTallies nD τ sig Unit) g u) : g = g' := by
  rw [tallyAt_apply] at h
  by_contra hn
  rw [if_neg fun h' => hn (h'.1)] at h
  exact Nat.lt_irrefl 0 h

theorem owedSend_pos {c : Dev nD} {l : List (Fin 32)} {g : GSem nD τ sig} {u : Unit} (h : 0 < owedSend c l g u) :
    ∃ p : Dev nD, g = rCell p c := by
  induction l with
  | nil => exact absurd h (Nat.lt_irrefl 0)
  | cons d l ih =>
    have h' : 0 < owedSend c l g u + (tallyAt (rCell (peer c d) c) () N : CellTallies nD τ sig Unit) g u := h
    rcases Nat.eq_zero_or_pos (owedSend c l g u) with h0 | hp
    · rw [h0, Nat.zero_add] at h'; exact ⟨_, tally_pos h'⟩
    · exact ih hp

theorem owedSig_pos {c : Dev nD} {l : List (Fin 32)} {g : GSem nD τ sig} {u : Unit} (h : 0 < owedSig c l g u) :
    (∃ p : Dev nD, g = rCell p c) ∨ ∃ p : Dev nD, g = barCell p := by
  induction l with
  | nil => exact .inl (owedSend_pos h)
  | cons d l ih =>
    have h' : 0 < owedSig c l g u + (tallyAt (barCell (peer c d)) () 1 : CellTallies nD τ sig Unit) g u := h
    rcases Nat.eq_zero_or_pos (owedSig c l g u) with h0 | hp
    · rw [h0, Nat.zero_add] at h'; exact .inr ⟨_, tally_pos h'⟩
    · exact ih hp

theorem mayWait_stage (c : Dev nD) (q : DmaSem sig) (hq : dec (.dma q) = none) (O : CellTallies nD τ sig Unit)
    (hO : O = O₀ c ∨ O = 0) : (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owedSig_pos hg with ⟨p, rfl⟩ | ⟨p, rfl⟩ <;> exact Finset.mem_singleton_self _)
      (fun p hp => by rw [Finset.mem_singleton.mp hp]; show (dec (.dma q)).elim 0 lvK ≤ 0; rw [hq]; exact Nat.le_refl 0)
      (fun g u hg => by
        rcases owedSig_pos hg with ⟨p, rfl⟩ | ⟨p, rfl⟩
        · rw [lv_k]; show (0 : ℕ) < 2; decide
        · rw [lv_k]; show (0 : ℕ) < 1; decide)
  · rw [MayWait_zero]; iintro -; iempintro

/-- At its barrier wait a device owes receive credits only. -/
theorem mayWait_bar (c : Dev nD) :
    (levAts L lv : sProp 𝕄) ⊢ MayWait (c : Thread nD τ) (.reg barS) () (owedSend c list32) :=
  MayOwe.of_cut (L := L) (lev := lv) 1 (fun p hp => by rw [Finset.mem_singleton.mp hp, L_tc]; exact Finset.mem_singleton_self _)
    (fun g u hg => by obtain ⟨p, rfl⟩ := owedSend_pos hg; exact Finset.mem_singleton_self _)
    (fun p hp => by rw [Finset.mem_singleton.mp hp]; exact Nat.le_of_eq (lv_k c (.inl ()) ()))
    (fun g u hg => by obtain ⟨p, rfl⟩ := owedSend_pos hg; rw [lv_k]; show (1 : ℕ) < 2; decide)

end Cert.KernelIdeal.Hand
-- ==== Proof.Phases.lean ====
/-
  The phases of the body, each by induction over its list of distances or steps.
-/
module

public import proofs.«01_k».proof.Proof.Protocol
public import Idealize.ShloMosaic.Lib.Pipeline.BigSepL

@[expose] public section

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Program `e` runs on device `c` to the postcondition `Q`. -/
abbrev Runs (c : Dev nD) (e : PK (F := F)) (Q : PUnit → sProp 𝕄) : sProp 𝕄 :=
  wp frame (wpE (defs₀ (F := F)) 𝒱₀ (c : Thread nD τ) none) Set.univ e Q

/-- What device `c` owes, whatever it has waited for. -/
def ow (c : Dev nD) (O : CellTallies nD τ sig Unit) : sProp 𝕄 := iprop(∃ W, owes (c : Thread nD τ) O W)

/-- Every cell's invariant, under the names `K`, and that its round 0 is reached. -/
def records (K : Dev nD × CK → ℕ) : sProp 𝕄 :=
  iprop(bigSep Finset.univ (fun ck => cellInv ER (ringRd m ρ) (K ck) (kcell ck))
    ∗ bigSep Finset.univ (fun ck : Dev nD × CK => reached ER (kcell ck) 0))

instance records_persistent (K : Dev nD × CK → ℕ) : BI.Persistent (records (F := F) m ρ K) := by unfold records; infer_instance

variable (K : Dev nD × CK → ℕ)

theorem inv_at (ck : Dev nD × CK) : (records m ρ K : sProp 𝕄) ⊢ cellInv ER (ringRd m ρ) (K ck) (kcell ck) := by
  unfold records
  exact sep_elim_left.trans (bigSep_elim (Finset.mem_univ ck))
theorem reached_at (ck : Dev nD × CK) : (records m ρ K : sProp 𝕄) ⊢ reached ER (kcell ck) 0 := by
  unfold records
  exact sep_elim_right.trans (bigSep_elim (Finset.mem_univ ck))

/-! ### The copies of the weight rows -/

theorem copy_one (c : Dev nD) (t : Fin 8) (k : PK (F := F)) (Q : PUnit → sProp 𝕄) :
    iprop(records m ρ K ∗ wOwn m c t ∗ bAny c t ∗ dutyTok ER (wCell c t) 0 0)
      ⊢ iprop((cred (tallyAt (wCell c t) () NW) -∗ Runs c k Q) -∗ Runs c (copyOp c t k) Q) := by
  unfold copyOp wOwn bAny owns
  iintro ⟨#HR, ⟨%fs, %hfs, Hw⟩, ⟨%fd, Hb⟩, Ht⟩ Hk
  iapply (Rounds.wp_copy_pointsTo 𝒱₀ ER (ringRd m ρ) (c : Thread nD τ) none (κ := K (c, .inr (.inr t))) (r := 0) (d := 0)
      (fs := fs) (fd := fd)
      (by rw [duties_k m ρ c (.inr (.inr t))]; exact Finset.mem_singleton_self _) () NW (show (bSlice t).view.amount (.dma (wSem t)) = NW from credit_b t)
      (amount_k m ρ c (.inr (.inr t)) 0)
      (by
        rw [payload_k m ρ c (.inr (.inr t))]
        show _ ⊢ iprop(bOwn m c t ∗ wOwn m c t)
        unfold bOwn wOwn owns
        iintro ⟨Hb, Hw⟩
        isplitl [Hb]
        · iexists _; isplitr; rotate_left; · iexact Hb
          ipureintro; rw [View.read_write_univ, hfs]
        · iexists _; isplitr; rotate_left; · iexact Hw
          ipureintro; exact hfs)) $$ [Hw Hb Ht]
  · isplitr; · iapply (inv_at m ρ K (c, .inr (.inr t))); iexact HR
    isplitl [Hw]; · iexact Hw
    isplitl [Hb]; · iexact Hb
    isplitl [Ht]; · iexact Ht
    iapply (reached_at m ρ K (c, .inr (.inr t))); iexact HR
  iexact Hk

theorem copy_phase (c : Dev nD) (l : List (Fin 8)) (k : PK (F := F)) (Q : PUnit → sProp 𝕄) :
    iprop(records m ρ K ∗ bigSepL l (fun t => iprop(wOwn m c t ∗ bAny c t ∗ dutyTok ER (wCell c t) 0 0)))
      ⊢ iprop((bigSepL l (fun t => cred (tallyAt (wCell c t) () NW)) -∗ Runs c k Q) -∗ Runs c (l.foldr (copyOp c) k) Q) := by
  induction l with
  | nil => iintro ⟨#HR, H⟩ Hk; iapply Hk; iexact H
  | cons t l ih =>
    rw [bigSepL_cons', bigSepL_cons', List.foldr_cons]
    iintro ⟨#HR, ⟨Hw, Hb, Ht⟩, Hl⟩ Hk
    iapply (copy_one m ρ K c t) $$ [Hw Hb Ht]
    · isplitr; · iexact HR
      isplitl [Hw]; · iexact Hw
      isplitl [Hb] <;> iassumption
    iintro Hc
    iapply ih $$ [Hl]
    · isplitr; · iexact HR
      iexact Hl
    iintro Hcs
    iapply Hk
    isplitl [Hc] <;> iassumption

/-! ### The signals -/

theorem signal_one (c : Dev nD) (d : Fin 32) (hd : d ≠ 0) (O : CellTallies nD τ sig Unit) (k : PK (F := F)) (Q : PUnit → sProp 𝕄) :
    iprop(records m ρ K ∗ ow c (O + tallyAt (barCell (peer c d)) () 1) ∗ dutyTok ER (barCell (peer c d)) 0 c ∗ gAny c (peer c d))
      ⊢ iprop((ow c O -∗ Runs c k Q) -∗ Runs c (signalOp c d k) Q) := by
  unfold signalOp ow
  iintro ⟨#HR, ⟨%W, HO⟩, Ht, Hg⟩ Hk
  iapply (Rounds.wp_signal 𝒱₀ ER (ringRd m ρ) (c : Thread nD τ) none (dst := (peer c d : Thread nD τ)) (κ := K (peer c d, .inl ()))
      (d := c) (by rw [duties_k m ρ (peer c d) (.inl ())]; exact Finset.mem_erase.mpr ⟨(peer_ne c hd).symm, Finset.mem_univ _⟩)
      ((amount_k m ρ (peer c d) (.inl ()) c).trans (by decide)) () O rfl) $$ [HO Ht Hg]
  · isplitr; · iapply (inv_at m ρ K (peer c d, .inl ())); iexact HR
    isplitl [HO]; · iexact HO
    isplitl [Ht]; · iexact Ht
    isplitl [Hg]; · rw [payload_bar]; iexact Hg
    iapply (reached_at m ρ K (peer c d, .inl ())); iexact HR
  iintro HO
  iapply Hk
  iexists W; iexact HO

theorem signal_phase (c : Dev nD) (l : List (Fin 32)) (hl : ∀ d ∈ l, d ≠ 0) (k : PK (F := F)) (Q : PUnit → sProp 𝕄) :
    iprop(records m ρ K ∗ ow c (owedSig c l)
        ∗ bigSepL l (fun d => iprop(dutyTok ER (barCell (peer c d)) 0 c ∗ gAny c (peer c d))))
      ⊢ iprop((ow c (owedSend c list32) -∗ Runs c k Q) -∗ Runs c (l.foldr (signalOp c) k) Q) := by
  induction l with
  | nil => iintro ⟨#HR, HO, -⟩ Hk; iapply Hk; iexact HO
  | cons d l ih =>
    rw [bigSepL_cons', List.foldr_cons]
    iintro ⟨#HR, HO, ⟨Ht, Hg⟩, Hl⟩ Hk
    iapply (signal_one m ρ K c d (hl d List.mem_cons_self) (owedSig c l)) $$ [HO Ht Hg]
    · isplitr; · iexact HR
      isplitl [HO]; · iexact HO
      isplitl [Ht] <;> iassumption
    iintro HO
    iapply (ih fun d hd => hl d (List.mem_cons_of_mem _ hd)) $$ [HO Hl]
    · isplitr; · iexact HR
      isplitl [HO] <;> iassumption
    iexact Hk

/-! ### The barrier wait -/

theorem bar_phase (c : Dev nD) (k : PK (F := F)) (Q : PUnit → sProp 𝕄) :
    iprop(records m ρ K ∗ cred (tallyAt (barCell c) () 31) ∗ ow c (owedSend c list32) ∗ levAts L lv ∗ atPos ER (barCell c) 0 ∅ 0)
      ⊢ iprop(((ow c (owedSend c list32) ∗ semVal (barCell c) 0 ∗ bigSep (Finset.univ.erase c) (fun p : Dev nD => gAny p c))
            -∗ Runs c k Q) -∗ Runs c (barWaitOp k) Q) := by
  unfold barWaitOp ow
  simp only [semWaitWord, Prog.lift, Prog.bind_op, Prog.bind_ret]
  iintro ⟨#HR, Hc, ⟨%W, HO⟩, #Hlev, Hat⟩ Hk
  iapply (Rounds.wp_wait_rest_token 𝒱₀ ER (ringRd m ρ) (c : Thread nD τ) none (κ := K (c, .inl ()))
      (wpE_semWait_eq 𝒱₀ (c : Thread nD τ) none Set.univ) (Set.mem_univ _) () (O := owedSend c list32) (W := W) (R := 0) (m := 0) (T := ∅)
      (by rw [expect_bar]; decide)) $$ [Hc HO Hat]
  · isplitr; · iapply (inv_at m ρ K (c, .inl ())); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (ringRd m ρ) (Set.mem_univ (K (c, .inl ()))) (fun h => h) (R := 0 + 1) (duties_later m ρ (barCell c))) $$ [Hat] with Hz
  · isplitr; · iapply (inv_at m ρ K (c, .inl ())); iexact HR
    iexact Hat
  iapply Hk
  isplitl [HO]; · iexists _; iexact HO
  isplitl [Hz] <;> iassumption

/-! ### The sends -/

theorem send_one (c : Dev nD) (d : Fin 32) (O : CellTallies nD τ sig Unit) (k : PK (F := F)) (Q : PUnit → sProp 𝕄) :
    iprop(records m ρ K ∗ ow c (O + tallyAt (rCell (peer c d) c) () N) ∗ xOwn m ρ c d ∗ gAny (peer c d) c
        ∗ dutyTok ER (sCell c d) 0 0 ∗ dutyTok ER (rCell (peer c d) c) 0 0)
      ⊢ iprop(((cred (tallyAt (sCell c d) () N) ∗ ow c O) -∗ Runs c k Q) -∗ Runs c (sendOp c d k) Q) := by
  unfold sendOp ow xOwn gAny owns
  iintro ⟨#HR, ⟨%W, HO⟩, ⟨%fs, %hfs, Hx⟩, ⟨%fd, Hg⟩, Ht, Ht'⟩ Hk
  iapply (Rounds.wp_send_pointsTo 𝒱₀ ER (ringRd m ρ) (c : Thread nD τ) none (κ₁ := K (c, .inr (.inl (.inl d))))
      (κ₂ := K (peer c d, .inr (.inl (.inr c)))) (r₁ := 0) (r₂ := 0) (d₁ := 0) (d₂ := 0) (fd := fd) (fs := fs)
      (by rw [duties_k m ρ c (.inr (.inl (.inl d)))]; exact Finset.mem_singleton_self _)
      (by rw [duties_k m ρ (peer c d) (.inr (.inl (.inr c)))]; exact Finset.mem_singleton_self _)
      () () N (show (gSlice c).view.amount (.dma (rSem c)) = N from credit_g c) (amount_k m ρ c (.inr (.inl (.inl d))) 0) (amount_k m ρ (peer c d) (.inr (.inl (.inr c))) 0) O rfl (W := W)
      (by
        rw [payload_k m ρ c (.inr (.inl (.inl d)))]
        show _ ⊢ xOwn m ρ c d
        unfold xOwn owns
        iintro Hx
        iexists _; isplitr; rotate_left; · iexact Hx
        ipureintro; exact hfs)
      (by
        rw [payload_k m ρ (peer c d) (.inr (.inl (.inr c)))]
        show _ ⊢ gOwn m ρ (peer c d) c
        unfold gOwn owns
        iintro Hg
        iexists _; isplitr; rotate_left; · iexact Hg
        ipureintro; rw [View.read_write_univ, hfs]
        exact (funext fun i => gFull_emb m ρ c d i).symm)) $$ [HO Hx Hg Ht Ht']
  · isplitr; · iapply (inv_at m ρ K (c, .inr (.inl (.inl d)))); iexact HR
    isplitr; · iapply (inv_at m ρ K (peer c d, .inr (.inl (.inr c)))); iexact HR
    isplitl [Hx]; · iexact Hx
    isplitl [Hg]; · iexact Hg
    isplitl [HO]; · iexact HO
    isplitl [Ht]; · iexact Ht
    isplitr; · iapply (reached_at m ρ K (c, .inr (.inl (.inl d)))); iexact HR
    isplitl [Ht']; · iexact Ht'
    iapply (reached_at m ρ K (peer c d, .inr (.inl (.inr c)))); iexact HR
  iintro ⟨Hc, HO⟩
  iapply Hk
  isplitl [Hc]; · iexact Hc
  iexists W; iexact HO

theorem send_phase (c : Dev nD) (l : List (Fin 32)) (k : PK (F := F)) (Q : PUnit → sProp 𝕄) :
    iprop(records m ρ K ∗ ow c (owedSend c l)
        ∗ bigSepL l (fun d => iprop(xOwn m ρ c d ∗ gAny (peer c d) c ∗ dutyTok ER (sCell c d) 0 0 ∗ dutyTok ER (rCell (peer c d) c) 0 0)))
      ⊢ iprop(((ow c 0 ∗ bigSepL l (fun d => cred (tallyAt (sCell c d) () N))) -∗ Runs c k Q)
          -∗ Runs c (l.foldr (sendOp c) k) Q) := by
  induction l with
  | nil =>
    rw [bigSepL_nil, bigSepL_nil, List.foldr_nil]
    iintro ⟨#HR, HO, H⟩ Hk; iapply Hk; isplitl [HO]; · iexact HO
    iexact H
  | cons d l ih =>
    rw [bigSepL_cons', bigSepL_cons', List.foldr_cons]
    iintro ⟨#HR, HO, ⟨Hx, Hg, Ht, Ht'⟩, Hl⟩ Hk
    iapply (send_one m ρ K c d (owedSend c l)) $$ [HO Hx Hg Ht Ht']
    · isplitr; · iexact HR
      isplitl [HO]; · iexact HO
      isplitl [Hx]; · iexact Hx
      isplitl [Hg]; · iexact Hg
      isplitl [Ht] <;> iassumption
    iintro ⟨Hc, HO⟩
    iapply ih $$ [HO Hl]
    · isplitr; · iexact HR
      isplitl [HO] <;> iassumption
    iintro ⟨HO, Hcs⟩
    iapply Hk
    isplitl [HO]; · iexact HO
    isplitl [Hc] <;> iassumption

/-! ### The waits on a device's own cells -/

/-- A transfer under way to an own cell. -/
def pend (c : Dev nD) (k : OK) : sProp 𝕄 :=
  iprop(cred (tallyAt (kcell (c, .inr k)) () (amountK (.inr k))) ∗ atPos ER (kcell (c, .inr k)) 0 ∅ 0)
/-- It has arrived, and its cell is closed. -/
def done (c : Dev nD) (k : OK) : sProp 𝕄 := iprop(semVal (kcell (c, .inr k)) 0 ∗ payK m ρ c (.inr k) 0)

theorem wait_own (c : Dev nD) (k : OK) {w : TpuEff nD τ sig (Elt F) Λ₀ .tc PUnit} {n : ℕ}
    (hw : ∀ Kt : PUnit → sProp 𝕄, wpE (defs₀ (F := F)) 𝒱₀ (c : Thread nD τ) none Set.univ w Kt
      = waitSpec (c : Thread nD τ) Set.univ (osem k) n Kt) (hn : n = amountK (.inr k))
    (e : PK (F := F)) (Q : PUnit → sProp 𝕄) :
    iprop(records m ρ K ∗ ow c 0 ∗ pend c k)
      ⊢ iprop(((ow c 0 ∗ done m ρ c k) -∗ Runs c e Q) -∗ Runs c (.op w fun _ => e) Q) := by
  subst hn
  unfold ow pend done
  iintro ⟨#HR, ⟨%W, HO⟩, Hc, Hat⟩ Hk
  iapply (Rounds.wp_wait_rest_token 𝒱₀ ER (ringRd m ρ) (c : Thread nD τ) none (κ := K (c, .inr k)) (sm := osem k)
      hw (Set.mem_univ _) () (O := 0) (W := W) (R := 0) (m := 0) (T := ∅)
      (by rw [Nat.zero_add]; exact (expect_o m ρ c k).symm)) $$ [Hc HO Hat]
  · isplitr; · iapply (inv_at m ρ K (c, .inr k)); iexact HR
    isplitl [Hc]; · iexact Hc
    isplitl [HO]; · iexact HO
    isplitr; · rw [MayWait_zero]; iempintro
    iexact Hat
  iintro ⟨HO, Hat, -, Hpay⟩
  ihave Hp := (Entails.of_eq (rest_o m ρ c k)) $$ Hpay
  imod (Rounds.cell_close ER (ringRd m ρ) (Set.mem_univ (K (c, .inr k))) (fun h => h) (R := 0 + 1) (duties_later m ρ (kcell (c, .inr k)))) $$ [Hat] with Hz
  · isplitr; · iapply (inv_at m ρ K (c, .inr k)); iexact HR
    iexact Hat
  iapply Hk
  isplitl [HO]; · iexists _; iexact HO
  isplitl [Hz] <;> iassumption

theorem swait_phase (c : Dev nD) (l : List (Fin 32)) (k : PK (F := F)) (Q : PUnit → sProp 𝕄) :
    iprop(records m ρ K ∗ ow c 0 ∗ bigSepL l (fun d => pend c (.inl (.inl d))))
      ⊢ iprop(((ow c 0 ∗ bigSepL l (fun d => done m ρ c (.inl (.inl d)))) -∗ Runs c k Q)
          -∗ Runs c (l.foldr (sWaitOp c) k) Q) := by
  induction l with
  | nil =>
    rw [bigSepL_nil, bigSepL_nil, List.foldr_nil]
    iintro ⟨#HR, HO, H⟩ Hk; iapply Hk; isplitl [HO] <;> iassumption
  | cons d l ih =>
    rw [bigSepL_cons', bigSepL_cons', List.foldr_cons]
    iintro ⟨#HR, HO, Hp, Hl⟩ Hk
    unfold sWaitOp
    iapply (wait_own m ρ K c (.inl (.inl d)) (wpE_waitDma2_eq 𝒱₀ (c : Thread nD τ) none Set.univ) (credit_x c d)) $$ [HO Hp]
    · isplitr; · iexact HR
      isplitl [HO] <;> iassumption
    iintro ⟨HO, Hd⟩
    iapply ih $$ [HO Hl]
    · isplitr; · iexact HR
      isplitl [HO] <;> iassumption
    iintro ⟨HO, Hcs⟩
    iapply Hk
    isplitl [HO]; · iexact HO
    isplitl [Hd] <;> iassumption

theorem bwait_phase (c : Dev nD) (t : Fin 8) (l : List (Fin 4)) (k : PK (F := F)) (Q : PUnit → sProp 𝕄) :
    iprop(records m ρ K ∗ ow c 0 ∗ bigSepL l (fun b => pend c (.inl (.inr (blk c t b)))))
      ⊢ iprop(((ow c 0 ∗ bigSepL l (fun b => done m ρ c (.inl (.inr (blk c t b))))) -∗ Runs c k Q)
          -∗ Runs c (l.foldr (bWaitOp c t) k) Q) := by
  induction l with
  | nil =>
    rw [bigSepL_nil, bigSepL_nil, List.foldr_nil]
    iintro ⟨#HR, HO, H⟩ Hk; iapply Hk; isplitl [HO] <;> iassumption
  | cons b l ih =>
    rw [bigSepL_cons', bigSepL_cons', List.foldr_cons]
    iintro ⟨#HR, HO, Hp, Hl⟩ Hk
    unfold bWaitOp
    iapply (wait_own m ρ K c (.inl (.inr (blk c t b)))
      (fun Kt => (wpE_waitDma2_eq 𝒱₀ (c : Thread nD τ) none Set.univ Kt).trans
        (congrArg (fun q : DmaSem sig => waitSpec (c : Thread nD τ) Set.univ (.dma q) _ Kt) (rSemAt_eq c t b))) (credit_gAt c t b)) $$ [HO Hp]
    · isplitr; · iexact HR
      isplitl [HO] <;> iassumption
    iintro ⟨HO, Hd⟩
    iapply ih $$ [HO Hl]
    · isplitr; · iexact HR
      isplitl [HO] <;> iassumption
    iintro ⟨HO, Hcs⟩
    iapply Hk
    isplitl [HO]; · iexact HO
    isplitl [Hd] <;> iassumption

end Cert.KernelIdeal.Hand
-- ==== Proof.Step.lean ====
/-
  One step of the multiplication: the waits for its weight rows and its four column blocks, and the two loads. Then the
  eight steps in a row, and the end of the body.
-/
module

public import proofs.«01_k».proof.Proof.Phases

@[expose] public section

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ### The rectangles of the gather buffer -/

theorem mem_gRect (j : Dev nD) (y : S128x4096.Idx) : y ∈ (gRect j).set ↔ (y 1).val / 128 = j.val := by
  have h0 : (y 0).val < 128 := (y 0).isLt
  rw [Rect.mem_set_unit, k0_off3_eq]
  constructor
  · intro h
    have h1 : 128 * j.val ≤ (y 1).val ∧ (y 1).val < 128 * j.val + 128 := h 1
    omega
  · intro h a
    match a with
    | ⟨0, _⟩ => exact ⟨Nat.zero_le _, (show (y 0).val < 0 + 128 by omega)⟩
    | ⟨1, _⟩ => exact (show 128 * j.val ≤ (y 1).val ∧ (y 1).val < 128 * j.val + 128 by omega)

theorem gRect_disj (j j' : Dev nD) (h : j ≠ j') : Disjoint (gRect j).set (gRect j').set :=
  Finset.disjoint_left.mpr fun y hy hy' => h (Fin.ext (((mem_gRect j y).mp hy).symm.trans ((mem_gRect j' y).mp hy')))

theorem blk_injective (c : Dev nD) (t : Fin 8) : Function.Injective (blk c t) := fun b b' h => by
  have h' : (blk c t b).val = (blk c t b').val := congrArg Fin.val h
  unfold blk at h'
  exact Fin.ext (by simp only at h'; omega)

/-- The columns step `t` loads, and the four blocks they lie in. -/
theorem gLoad_val (c : Dev nD) (t : Fin 8) (i : S128x512.Idx) :
    ((gLoad c t).emb i 0).val = (i 0).val ∧ ((gLoad c t).emb i 1).val = 512 * ((c.val / 4 + 15 - t.val) % 8) + (i 1).val := by
  constructor
  · show k0_off7 c (BitVec.ofNat 32 t.val) 0 + 1 * (i 0).val = _
    rw [k0_off7_eq]; show 0 + 1 * (i 0).val = _; omega
  · show k0_off7 c (BitVec.ofNat 32 t.val) 1 + 1 * (i 1).val = _
    rw [k0_off7_eq]; show 512 * ((c.val / 4 + 15 - t.val) % 8) + 1 * (i 1).val = _; omega

theorem gLoad_blk (c : Dev nD) (t : Fin 8) (i : S128x512.Idx) : ∃ b : Fin 4, (gLoad c t).emb i ∈ (gRect (blk c t b)).set := by
  have h1 : (i 1).val < 512 := (i 1).isLt
  refine ⟨⟨(i 1).val / 128, by omega⟩, (mem_gRect _ _).mpr ?_⟩
  rw [(gLoad_val c t i).2]
  show _ = 4 * ((c.val / 4 + 15 - t.val) % 8) + (i 1).val / 128
  omega

/-- What step `t` multiplies: the gathered columns, and the weight rows. -/
def gv (c : Dev nD) (t : Fin 8) : Vec F S128x512 .i8 := fun i => gFull m ρ c ((gLoad c t).emb i)
theorem casts_back : S512x8192.ShapeCasts S1x512x8192 := by decide
def wv1 (c : Dev nD) (t : Fin 8) : Vec F S1x512x8192 .i8 := shapeCast S1x512x8192 (wv m c t) casts_back

variable (K : Dev nD × CK → ℕ)

/-- A receive cell closed, its gather block at some contents. -/
def gDone (c j : Dev nD) : sProp 𝕄 := iprop(semVal (rCell c j) 0 ∗ gAny c j)
/-- What step `t` takes, and what it leaves. -/
def stepIn (c : Dev nD) (t : Fin 8) : sProp 𝕄 :=
  iprop(pend c (.inr t) ∗ bigSep Finset.univ (fun b : Fin 4 => pend c (.inl (.inr (blk c t b)))))
def stepOut (c : Dev nD) (t : Fin 8) : sProp 𝕄 :=
  iprop(done m ρ c (.inr t) ∗ bigSep Finset.univ (fun b : Fin 4 => gDone c (blk c t b)))

theorem list4 (Φ : Fin 4 → sProp 𝕄) : bigSep Finset.univ Φ = bigSepL [3, 2, 1, 0] Φ :=
  bigSep_univ_eq_bigSepL [3, 2, 1, 0] (by decide) (by decide) Φ

theorem gload_op (c : Dev nD) (t : Fin 8) (k : Vec F S128x512 .i8 → PK (F := F)) (Q : PUnit → sProp 𝕄) :
    bigSep Finset.univ (fun b : Fin 4 => gOwn m ρ c (blk c t b))
      ⊢ iprop((bigSep Finset.univ (fun b : Fin 4 => gAny c (blk c t b)) -∗ Runs c (k (gv m ρ c t)) Q)
          -∗ Runs c (.op (.load gM (gLoad c t).toLoadRect (View.loadsAt_vmem h_S128x512)) k) Q) := by
  have hd : ∀ b b' : Fin 4, b ≠ b' → Disjoint (gRect (blk c t b)).set (gRect (blk c t b')).set :=
    fun b b' h => gRect_disj _ _ fun e => h (blk_injective c t e)
  refine (owns_rects_join (c : Thread nD τ) gM fullShare (fun b : Fin 4 => gRect (blk c t b)) (fun _ _ => rfl) hd
    (gFull m ρ c) Finset.univ).trans ?_
  iintro ⟨%g, %hg, H⟩ Hk
  have hmem : ∀ i : S128x512.Idx, ∃ b : Fin 4, ∃ j, (gLoad c t).emb i = (gRect (blk c t b)).emb j := fun i => by
    obtain ⟨b, hb⟩ := gLoad_blk c t i
    rw [← Rect.map_emb_univ, Finset.mem_map] at hb
    obtain ⟨j, -, hj⟩ := hb
    exact ⟨b, j, hj.symm⟩
  have hS : (gM.access (gLoad c t)).set ⊆ Finset.univ.biUnion fun b : Fin 4 => (gM.view.slice (gRect (blk c t b))).set := by
    intro y hy
    rw [View.set, Finset.mem_map] at hy
    obtain ⟨i, -, rfl⟩ := hy
    obtain ⟨b, hb⟩ := gLoad_blk c t i
    refine Finset.mem_biUnion.mpr ⟨b, Finset.mem_univ _, ?_⟩
    rw [View.set_slice]
    exact Finset.mem_map_of_mem _ hb
  have hread : (gM.access (gLoad c t)).read (Elt F) g = gv m ρ c t := by
    funext i
    obtain ⟨b, j, hj⟩ := hmem i
    show gM.view.read (Elt F) g ((gLoad c t).emb i) = gFull m ρ c ((gLoad c t).emb i)
    rw [hj]; exact hg b (Finset.mem_univ _) j
  have hsplit : ((gM.view.loc (c : Thread nD τ))
        ↦[Finset.univ.biUnion fun b : Fin 4 => (gM.view.slice (gRect (blk c t b))).set]{fullShare} g : sProp 𝕄)
      ⊢ bigSep Finset.univ (fun b : Fin 4 => gAny c (blk c t b)) := by
    rw [pointsTo_biUnion (ℓ := gM.view.loc (c : Thread nD τ)) Finset.univ (fun b : Fin 4 => (gM.view.slice (gRect (blk c t b))).set)
      (fun b _ b' _ h => by rw [View.set_slice, View.set_slice]; exact (Finset.disjoint_map _).mpr (hd b b' h))]
    refine bigSep_mono fun b _ => ?_
    unfold gAny
    exact exists_intro (Φ := fun f => iprop((gSlice (blk c t b)).view.loc (c : Thread nD τ) ↦[(gSlice (blk c t b)).view.set]{fullShare} f)) g
  iapply (wp_load_rect 𝒱₀ (c : Thread nD τ) none Set.univ (m := gM) (r := gLoad c t) hS) $$ H
  rw [hread]
  iintro H
  iapply Hk
  iapply hsplit
  iexact H

theorem wload_op (c : Dev nD) (t : Fin 8) (k : Vec F S1x512x8192 .i8 → PK (F := F)) (Q : PUnit → sProp 𝕄) :
    bOwn m c t
      ⊢ iprop((bOwn m c t -∗ Runs c (k (wv1 m c t)) Q)
          -∗ Runs c (.op (.load bM (bRect t).toLoadRect (View.loadsAt_vmem h_S1x512x8192)) k) Q) := by
  unfold bOwn owns
  iintro ⟨%f, %hf, H⟩ Hk
  have hread : (bM.access (bRect t)).read (Elt F) f = wv1 m c t := by
    unfold wv1
    rw [← hf]
    exact (shapeCast_shapeCast ((bM.access (bRect t)).read (Elt F) f) shapeCasts_S1x512x8192_S512x8192 casts_back).symm
  iapply (wp_load_rect 𝒱₀ (c : Thread nD τ) none Set.univ (m := bM) (r := bRect t) (S := (bSlice t).view.set)
    (by rw [View.set_reshape])) $$ H
  rw [hread]
  iintro H
  iapply Hk
  iexists f
  isplitr; · ipureintro; exact hf
  iexact H

theorem step_phase (c : Dev nD) (t : Fin 8) (k : Vec F S128x512 .i8 → Vec F S1x512x8192 .i8 → PK (F := F)) (Q : PUnit → sProp 𝕄) :
    iprop(records m ρ K ∗ ow c 0 ∗ stepIn c t)
      ⊢ iprop(((ow c 0 ∗ stepOut m ρ c t) -∗ Runs c (k (gv m ρ c t) (wv1 m c t)) Q) -∗ Runs c (stepOp c t k) Q) := by
  unfold stepIn stepOut stepOp wWaitOp
  iintro ⟨#HR, HO, Hp, Hb⟩ Hk
  iapply (wait_own m ρ K c (.inr t) (wpE_waitDma2_eq 𝒱₀ (c : Thread nD τ) none Set.univ) (credit_b t)) $$ [HO Hp]
  · isplitr; · iexact HR
    isplitl [HO] <;> iassumption
  iintro ⟨HO, Hd⟩
  iapply (bwait_phase m ρ K c t [3, 2, 1, 0]) $$ [HO Hb]
  · isplitr; · iexact HR
    isplitl [HO]; · iexact HO
    rw [← list4]; iexact Hb
  rw [← list4]
  unfold done
  rw [bigSep_sep']
  iintro ⟨HO, Hz, Hg⟩
  ihave Hg' := (show bigSep Finset.univ (fun b : Fin 4 => payK m ρ c (.inr (.inl (.inr (blk c t b)))) 0)
    ⊢ bigSep Finset.univ (fun b : Fin 4 => gOwn m ρ c (blk c t b)) from .rfl) $$ Hg
  iapply (gload_op m ρ c t) $$ Hg'
  iintro Hg
  icases Hd with ⟨Hzt, Hbw⟩
  ihave Hbw' := (show payK m ρ c (.inr (.inr t)) 0 ⊢ iprop(bOwn m c t ∗ wOwn m c t) from .rfl) $$ Hbw
  icases Hbw' with ⟨Hb, Hw⟩
  iapply (wload_op m c t) $$ Hb
  iintro Hb
  iapply Hk
  isplitl [HO]; · iexact HO
  isplitl [Hzt Hb Hw]
  · isplitl [Hzt]; · iexact Hzt
    iapply (show iprop(bOwn m c t ∗ wOwn m c t) ⊢ payK m ρ c (.inr (.inr t)) 0 from .rfl)
    isplitl [Hb] <;> iassumption
  · unfold gDone
    rw [bigSep_sep']
    isplitl [Hz] <;> iassumption

/-! ### The steps in a row -/

abbrev Acc : Type := IVec S128x8192 32
abbrev StepFn (F : FTy → Type) : Type := Acc → Vec F S128x512 .i8 → Vec F S1x512x8192 .i8 → Acc

def stepsOp (c : Dev nD) : List (Fin 8 × StepFn F) → (Acc → PK (F := F)) → Acc → PK (F := F)
  | [], k, acc => k acc
  | (t, f) :: l, k, acc => stepOp c t fun g w => stepsOp c l k (f acc g w)

def stepList : List (Fin 8 × StepFn F) :=
  [(0, fun _ g w => k0_pay1 g w), (1, k0_pay2), (2, k0_pay3), (3, k0_pay4), (4, k0_pay5), (5, k0_pay6), (6, k0_pay7)]

theorem compute_eq (c : Dev nD) (k : PK (F := F)) :
    compute c k = stepsOp c stepList (fun acc => stepOp c 7 fun g w => finOp acc g w k) (fun _ => 0#32) := rfl

/-- The accumulator after the steps of `l`. -/
def accOf (c : Dev nD) (l : List (Fin 8 × StepFn F)) (acc : Acc) : Acc :=
  l.foldl (fun a tf => tf.2 a (gv m ρ c tf.1) (wv1 m c tf.1)) acc

theorem steps_phase (c : Dev nD) (l : List (Fin 8 × StepFn F)) (k : Acc → PK (F := F)) (acc : Acc) (Q : PUnit → sProp 𝕄) :
    iprop(records m ρ K ∗ ow c 0 ∗ bigSepL (l.map Prod.fst) (fun t => stepIn c t))
      ⊢ iprop(((ow c 0 ∗ bigSepL (l.map Prod.fst) (fun t => stepOut m ρ c t)) -∗ Runs c (k (accOf m ρ c l acc)) Q)
          -∗ Runs c (stepsOp c l k acc) Q) := by
  induction l generalizing acc with
  | nil =>
    rw [List.map_nil, bigSepL_nil, bigSepL_nil]
    show _ ⊢ iprop(((ow c 0 ∗ BI.emp) -∗ Runs c (k acc) Q) -∗ Runs c (k acc) Q)
    iintro ⟨#HR, HO, H⟩ Hk; iapply Hk; isplitl [HO] <;> iassumption
  | cons tf l ih =>
    obtain ⟨t, f⟩ := tf
    rw [List.map_cons, bigSepL_cons', bigSepL_cons',
      show stepsOp c ((t, f) :: l) k acc = stepOp c t (fun g w => stepsOp c l k (f acc g w)) from rfl]
    iintro ⟨#HR, HO, Ht, Hl⟩ Hk
    iapply (step_phase m ρ K c t) $$ [HO Ht]
    · isplitr; · iexact HR
      isplitl [HO] <;> iassumption
    iintro ⟨HO, Ht⟩
    iapply (ih (f acc (gv m ρ c t) (wv1 m c t))) $$ [HO Hl]
    · isplitr; · iexact HR
      isplitl [HO] <;> iassumption
    iintro ⟨HO, Hl⟩
    iapply Hk
    isplitl [HO]; · iexact HO
    isplitl [Ht] <;> iassumption

/-! ### The end of the body -/

/-- The kernel's result on device `c`. -/
def outAt (c : Dev nD) : (cc0_stg3_0 : Ref sig .tc).ty.Contents (Elt F) :=
  k0_pay8 (accOf m ρ c stepList (fun _ => 0#32)) (gv m ρ c 7) (wv1 m c 7)
    (sxstg m ρ c (ix1 (0 : Fin 1))) (swstg m ρ c (ix1 (0 : Fin 1)))

theorem first_S1 (f : S1.Idx → Elt F .f32) (i : S1.Idx) : f i = f (ix1 (0 : Fin 1)) :=
  congrArg f (funext fun a => by
    match a with
    | ⟨0, _⟩ =>
      have h : (i 0).val < 1 := (i 0).isLt
      apply Fin.ext
      show (i 0).val = 0
      omega)

theorem hz2 : (![0, 0] : Fin 2 → ℕ) = fun _ => 0 := funext fun a => by fin_cases a <;> rfl

theorem write_out (f w : (cc0_stg3_0 : Ref sig .tc).ty.Contents (Elt F)) :
    ((oM : Memref sig .tc .vmem S128x8192 .f32).access oRect : View sig .tc _ _ _).write (Elt F) f w Finset.univ = w :=
  Memref.write_access_unit_zero_univ (Elt F) cc0_stg3_0 hz2 _ f w

abbrev sRect : Rect S1 := Rect.unit (s := S1) ![0] S1.size inb_S1_S1_0

theorem finOp_eq (acc : Acc) (g : Vec F S128x512 .i8) (w : Vec F S1x512x8192 .i8) (k : PK (F := F)) :
    ∃ (x1 x2 : sRect.shape.Idx) (h1 : _) (h2 : _) (h3 : _) (h4 : _) (h5 : _),
      finOp acc g w k = .op (.load sxM sRect.toLoadRect h1) fun f1 => .op (.load swM sRect.toLoadRect h2) fun f2 =>
        .op (.load oM oRect.toLoadRect h3) fun _ => .op (.store oM oRect (k0_pay8 acc g w (f1 x1) (f2 x2)) Finset.univ h4 h5) fun _ => k :=
  ⟨_, _, _, _, _, _, _, rfl⟩

theorem read_sx (f : (cc0_stg1_0 : Ref sig .tc).ty.Contents (Elt F)) : (sxM.access sRect).read (Elt F) f = f :=
  Memref.readAt_unit_zero (Elt F) cc0_stg1_0 (funext fun a => by fin_cases a; rfl) _ f
theorem read_sw (f : (cc0_stg2_0 : Ref sig .tc).ty.Contents (Elt F)) : (swM.access sRect).read (Elt F) f = f :=
  Memref.readAt_unit_zero (Elt F) cc0_stg2_0 (funext fun a => by fin_cases a; rfl) _ f

theorem fin_phase (c : Dev nD) (acc : Acc) (g : Vec F S128x512 .i8) (w : Vec F S1x512x8192 .i8) (fo : (cc0_stg3_0 : Ref sig .tc).ty.Contents (Elt F))
    (k : PK (F := F)) (Q : PUnit → sProp 𝕄) :
    iprop((((c : Thread nD τ).loc cc0_stg1_0) ↦{fullShare} sxstg m ρ c) ∗ (((c : Thread nD τ).loc cc0_stg2_0) ↦{fullShare} swstg m ρ c)
        ∗ (((c : Thread nD τ).loc cc0_stg3_0) ↦{fullShare} fo))
      ⊢ iprop((((((c : Thread nD τ).loc cc0_stg1_0) ↦{fullShare} sxstg m ρ c) ∗ (((c : Thread nD τ).loc cc0_stg2_0) ↦{fullShare} swstg m ρ c)
          ∗ (((c : Thread nD τ).loc cc0_stg3_0) ↦{fullShare} k0_pay8 acc g w (sxstg m ρ c (ix1 (0 : Fin 1))) (swstg m ρ c (ix1 (0 : Fin 1)))))
          -∗ Runs c k Q) -∗ Runs c (finOp acc g w k) Q) := by
  obtain ⟨x1, x2, h1, h2, h3, h4, h5, e⟩ := finOp_eq acc g w k
  rw [e]
  iintro ⟨Hsx, Hsw, Ho⟩ Hk
  iapply (wp_load_rect 𝒱₀ (c : Thread nD τ) none Set.univ (m := sxM) (r := sRect) (f := sxstg m ρ c) (Finset.subset_univ _)) $$ Hsx
  rw [read_sx]
  iintro Hsx
  iapply (wp_load_rect 𝒱₀ (c : Thread nD τ) none Set.univ (m := swM) (r := sRect) (f := swstg m ρ c) (Finset.subset_univ _)) $$ Hsw
  rw [read_sw]
  iintro Hsw
  iapply (wp_load 𝒱₀ (c : Thread nD τ) none Set.univ (m := oM) (r := oRect.toLoadRect) (f := fo) (Finset.subset_univ _)) $$ Ho
  iintro Ho
  iapply (wp_store 𝒱₀ (c : Thread nD τ) none Set.univ (m := oM) (r := oRect) (f := fo) (Mk := Finset.univ) (Finset.subset_univ _)) $$ Ho
  rw [write_out, first_S1 (sxstg m ρ c) x1, first_S1 (swstg m ρ c) x2]
  iintro Ho
  iapply Hk
  isplitl [Hsx]; · iexact Hsx
  isplitl [Hsw]; · iexact Hsw
  iexact Ho

end Cert.KernelIdeal.Hand
-- ==== Proof.Body.lean ====
/-
  The whole body on one device: the buffers split into their blocks, the phases in program order, the blocks joined again.
-/
module

public import proofs.«01_k».proof.Proof.Step

@[expose] public section

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ### The blocks of each buffer -/

theorem gRect_cover : (Finset.univ.biUnion fun j : Dev nD => (gRect j).set) = Finset.univ := by
  ext y
  have h1 : (y 1).val < 4096 := (y 1).isLt
  exact ⟨fun _ => Finset.mem_univ _, fun _ => Finset.mem_biUnion.mpr
    ⟨⟨(y 1).val / 128, by show _ < 32; omega⟩, Finset.mem_univ _, (mem_gRect _ y).mpr rfl⟩⟩

theorem mem_xRect (c : Dev nD) (d : Fin 32) (y : S4096x128.Idx) : y ∈ (xRect c d).set ↔ (y 0).val / 128 = (peer c d).val := by
  have h1 : (y 1).val < 128 := (y 1).isLt
  rw [Rect.mem_set_unit, k0_off4_eq, peer_val]
  constructor
  · intro h
    have h0 : 128 * ((c.val + d.val) % 32) ≤ (y 0).val ∧ (y 0).val < 128 * ((c.val + d.val) % 32) + 128 := h 0
    omega
  · intro h a
    match a with
    | ⟨0, _⟩ => exact (show 128 * ((c.val + d.val) % 32) ≤ (y 0).val ∧ (y 0).val < 128 * ((c.val + d.val) % 32) + 128 by omega)
    | ⟨1, _⟩ => exact ⟨Nat.zero_le _, (show (y 1).val < 0 + 128 by omega)⟩

theorem xRect_disj (c : Dev nD) (d d' : Fin 32) (h : d ≠ d') : Disjoint (xRect c d).set (xRect c d').set :=
  Finset.disjoint_left.mpr fun y hy hy' => h ((peerE c).injective
    (Fin.ext (((mem_xRect c d y).mp hy).symm.trans ((mem_xRect c d' y).mp hy'))))

theorem xRect_cover (c : Dev nD) : (Finset.univ.biUnion fun d : Fin 32 => (xRect c d).set) = Finset.univ := by
  ext y
  have h0 : (y 0).val < 4096 := (y 0).isLt
  refine ⟨fun _ => Finset.mem_univ _, fun _ => ?_⟩
  obtain ⟨d, hd⟩ := (peerE c).surjective ⟨(y 0).val / 128, by show _ < 32; omega⟩
  exact Finset.mem_biUnion.mpr ⟨d, Finset.mem_univ _, (mem_xRect c d y).mpr (congrArg Fin.val hd).symm⟩

theorem mem_wRect (c : Dev nD) (t : Fin 8) (y : S4096x8192.Idx) :
    y ∈ (wRect c t).set ↔ (y 0).val / 512 = (c.val / 4 + 15 - t.val) % 8 := by
  have h1 : (y 1).val < 8192 := (y 1).isLt
  rw [Rect.mem_set_unit, k0_off1_eq]
  constructor
  · intro h
    have h0 : 512 * ((c.val / 4 + 15 - t.val) % 8) ≤ (y 0).val ∧ (y 0).val < 512 * ((c.val / 4 + 15 - t.val) % 8) + 512 := h 0
    omega
  · intro h a
    match a with
    | ⟨0, _⟩ => exact (show 512 * ((c.val / 4 + 15 - t.val) % 8) ≤ (y 0).val ∧ (y 0).val < 512 * ((c.val / 4 + 15 - t.val) % 8) + 512 by omega)
    | ⟨1, _⟩ => exact ⟨Nat.zero_le _, (show (y 1).val < 0 + 8192 by omega)⟩

theorem wRect_disj (c : Dev nD) (t t' : Fin 8) (h : t ≠ t') : Disjoint (wRect c t).set (wRect c t').set :=
  Finset.disjoint_left.mpr fun y hy hy' => h (by
    have e := ((mem_wRect c t y).mp hy).symm.trans ((mem_wRect c t' y).mp hy')
    have := t.isLt; have := t'.isLt
    exact Fin.ext (by omega))

theorem wRect_cover (c : Dev nD) : (Finset.univ.biUnion fun t : Fin 8 => (wRect c t).set) = Finset.univ := by
  ext y
  have h0 : (y 0).val < 4096 := (y 0).isLt
  refine ⟨fun _ => Finset.mem_univ _, fun _ => Finset.mem_biUnion.mpr
    ⟨⟨(c.val / 4 + 15 - (y 0).val / 512) % 8, Nat.mod_lt _ (by decide)⟩, Finset.mem_univ _, (mem_wRect c _ y).mpr ?_⟩⟩
  show (y 0).val / 512 = (c.val / 4 + 15 - (c.val / 4 + 15 - (y 0).val / 512) % 8) % 8
  omega

theorem mem_bRect (t : Fin 8) (y : S8x512x8192.Idx) : y ∈ (bRect t).set ↔ (y 0).val = t.val := by
  have h1 : (y 1).val < 512 := (y 1).isLt
  have h2 : (y 2).val < 8192 := (y 2).isLt
  rw [Rect.mem_set_unit]
  constructor
  · intro h
    have h0 : t.val ≤ (y 0).val ∧ (y 0).val < t.val + 1 := h 0
    omega
  · intro h a
    match a with
    | ⟨0, _⟩ => exact (show t.val ≤ (y 0).val ∧ (y 0).val < t.val + 1 by omega)
    | ⟨1, _⟩ => exact ⟨Nat.zero_le _, (show (y 1).val < 0 + 512 by omega)⟩
    | ⟨2, _⟩ => exact ⟨Nat.zero_le _, (show (y 2).val < 0 + 8192 by omega)⟩

abbrev bI (t : Fin 8) : Finset S8x512x8192.Idx := (bSlice t).view.set
abbrev gI (j : Dev nD) : Finset S128x4096.Idx := (gSlice j).view.set
theorem bSet (t : Fin 8) : bI t = (bRect t).set :=
  (View.set_reshape ((View.whole cc0_scratch1).slice (bRect t)) squeezes_S1x512x8192_S512x8192.numel_eq).trans (View.set_slice_whole _ _)
theorem gSet (j : Dev nD) : gI j = (gRect j).set := View.set_slice_whole _ _

theorem bSet_disj (t t' : Fin 8) (h : t ≠ t') : Disjoint (bI t) (bI t') := by
  rw [bSet, bSet]
  exact Finset.disjoint_left.mpr fun y hy hy' => h (Fin.ext (((mem_bRect t y).mp hy).symm.trans ((mem_bRect t' y).mp hy')))
theorem bSet_cover : (Finset.univ.biUnion fun t : Fin 8 => bI t) = Finset.univ := by
  ext y
  exact ⟨fun _ => Finset.mem_univ _, fun _ => Finset.mem_biUnion.mpr
    ⟨(⟨(y 0).val, (y 0).isLt⟩ : Fin 8), Finset.mem_univ _, by rw [bSet]; exact (mem_bRect _ y).mpr rfl⟩⟩
theorem gSet_disj (j j' : Dev nD) (h : j ≠ j') : Disjoint (gI j) (gI j') := by
  rw [gSet, gSet]; exact gRect_disj j j' h
theorem gSet_cover : (Finset.univ.biUnion fun j : Dev nD => (gI j)) = Finset.univ := by
  rw [← gRect_cover]; exact Finset.biUnion_congr rfl fun j _ => gSet j

/-- A device's buffers, each whole. -/
def xPts (c : Dev nD) : sProp 𝕄 := iprop(((c : Thread nD τ).loc cc0_stg0_0) ↦{fullShare} xstg m ρ c)
def wPts (c : Dev nD) : sProp 𝕄 := iprop(((c : Thread nD τ).loc main_arg1) ↦{fullShare} wArr m c)
def gPts (c : Dev nD) : sProp 𝕄 :=
  iprop(∃ f : Buf (Elt F) ((c : Thread nD τ).loc cc0_scratch0), ((c : Thread nD τ).loc cc0_scratch0) ↦{fullShare} f)
def bPts (c : Dev nD) : sProp 𝕄 :=
  iprop(∃ f : Buf (Elt F) ((c : Thread nD τ).loc cc0_scratch1), ((c : Thread nD τ).loc cc0_scratch1) ↦{fullShare} f)

/-- A buffer owned whole, as its points-to. -/
theorem owns_whole_pts (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

theorem owns_of_pts (c : Dev nD) (b : Ref sig .tc) (X : b.ty.Contents (Elt F)) :
    (((c : Thread nD τ).loc b) ↦{fullShare} X : sProp 𝕄) ⊢ owns (c : Thread nD τ) (Memref.whole b) fullShare X := by
  rw [owns_whole_pts]
  iintro H; iexists X; isplitr; · (ipureintro; rfl)
  iexact H
theorem pts_of_owns (c : Dev nD) (b : Ref sig .tc) (X : b.ty.Contents (Elt F)) :
    owns (c : Thread nD τ) (Memref.whole b) fullShare X ⊢ (((c : Thread nD τ).loc b) ↦{fullShare} X : sProp 𝕄) := by
  rw [owns_whole_pts]
  iintro ⟨%f, %hf, H⟩; subst hf; iexact H

theorem x_split (c : Dev nD) : (xPts m ρ c : sProp 𝕄) ⊢ bigSep Finset.univ (fun d : Fin 32 => xOwn m ρ c d) :=
  (owns_of_pts c cc0_stg0_0 (xstg m ρ c)).trans
    (owns_rects (c : Thread nD τ) xM fullShare (xRect c) (fun _ _ => rfl) (xRect_disj c) (xRect_cover c) (xstg m ρ c))
theorem x_join (c : Dev nD) : bigSep Finset.univ (fun d : Fin 32 => xOwn m ρ c d) ⊢ (xPts m ρ c : sProp 𝕄) :=
  (owns_of_rects (c : Thread nD τ) xM fullShare (xRect c) (fun _ _ => rfl) (xRect_disj c) (xRect_cover c) (xstg m ρ c)).trans
    (pts_of_owns c cc0_stg0_0 (xstg m ρ c))
theorem w_split (c : Dev nD) : (wPts m c : sProp 𝕄) ⊢ bigSep Finset.univ (fun t : Fin 8 => wOwn m c t) :=
  (owns_of_pts c main_arg1 (wArr m c)).trans
    (owns_rects (c : Thread nD τ) wM fullShare (wRect c) (fun _ _ => rfl) (wRect_disj c) (wRect_cover c) (wArr m c))
theorem w_join (c : Dev nD) : bigSep Finset.univ (fun t : Fin 8 => wOwn m c t) ⊢ (wPts m c : sProp 𝕄) :=
  (owns_of_rects (c : Thread nD τ) wM fullShare (wRect c) (fun _ _ => rfl) (wRect_disj c) (wRect_cover c) (wArr m c)).trans
    (pts_of_owns c main_arg1 (wArr m c))

/-- Blocks at some contents each. -/
theorem blocks_split {ℓ : Loc nD τ sig} {B : Type} [Fintype B] [DecidableEq B] (I : B → Finset (Idx ℓ))
    (hd : ∀ b b', b ≠ b' → Disjoint (I b) (I b')) (hc : (Finset.univ.biUnion I) = Finset.univ) :
    (iprop(∃ f, ℓ ↦{fullShare} f) : sProp 𝕄) ⊢ bigSep Finset.univ (fun b => iprop(∃ f, ℓ ↦[I b]{fullShare} f)) := by
  iintro ⟨%f, H⟩
  ihave H' := (Entails.of_eq (Ring.pointsTo_blocks I hd hc f)) $$ H
  iapply (show bigSep Finset.univ (fun b => (ℓ ↦[I b]{fullShare} f : sProp 𝕄)) ⊢ bigSep Finset.univ (fun b => iprop(∃ f, ℓ ↦[I b]{fullShare} f))
    from bigSep_mono fun b _ => exists_intro (Φ := fun f => iprop(ℓ ↦[I b]{fullShare} f)) f)
  iexact H'

theorem g_split (c : Dev nD) : (gPts c : sProp 𝕄) ⊢ bigSep Finset.univ (fun j : Dev nD => gAny c j) :=
  blocks_split (ℓ := (c : Thread nD τ).loc cc0_scratch0) gI gSet_disj gSet_cover
theorem g_join (c : Dev nD) : bigSep Finset.univ (fun j : Dev nD => gAny c j) ⊢ (gPts c : sProp 𝕄) :=
  Ring.pointsTo_blocks_join_exists (ℓ := (c : Thread nD τ).loc cc0_scratch0) gI gSet_disj gSet_cover (fun _ => (0#8 : BitVec 8))
theorem b_split (c : Dev nD) : (bPts c : sProp 𝕄) ⊢ bigSep Finset.univ (fun t : Fin 8 => bAny c t) :=
  blocks_split (ℓ := (c : Thread nD τ).loc cc0_scratch1) bI bSet_disj bSet_cover
theorem b_any (c : Dev nD) (t : Fin 8) : (bOwn m c t : sProp 𝕄) ⊢ bAny c t := by
  unfold bOwn bAny owns
  iintro ⟨%f, -, H⟩; iexists f; iexact H
theorem b_join (c : Dev nD) : bigSep Finset.univ (fun t : Fin 8 => bOwn m c t) ⊢ (bPts c : sProp 𝕄) :=
  (bigSep_mono fun t _ => b_any m c t).trans
    (Ring.pointsTo_blocks_join_exists (ℓ := (c : Thread nD τ).loc cc0_scratch1) bI bSet_disj bSet_cover
      (fun _ => (0#8 : BitVec 8)))

/-! ### Rearranging -/

theorem on32 (Φ : Fin 32 → sProp 𝕄) : bigSep Finset.univ Φ = bigSepL list32 Φ :=
  bigSep_univ_eq_bigSepL list32 (by decide) (by decide) Φ
theorem on8 (Φ : Fin 8 → sProp 𝕄) : bigSep Finset.univ Φ = bigSepL list8 Φ :=
  bigSep_univ_eq_bigSepL list8 (by decide) (by decide) Φ
theorem on31 (Φ : Fin 32 → sProp 𝕄) : bigSep Finset.univ Φ = iprop(Φ 0 ∗ bigSepL list31 Φ) :=
  (on32 Φ).trans (bigSepL_cons' (0 : Fin 32) list31 Φ)
theorem on71 (Φ : Fin 8 → sProp 𝕄) : bigSep Finset.univ Φ = iprop(bigSepL ((stepList (F := F)).map Prod.fst) Φ ∗ Φ 7) :=
  (on8 Φ).trans ((bigSepL_append ((stepList (F := F)).map Prod.fst) [7] Φ).trans
    (congrArg (fun P => iprop(bigSepL ((stepList (F := F)).map Prod.fst) Φ ∗ P)) (bigSepL_singleton 7 Φ)))
theorem on_unit (Φ : Unit → sProp 𝕄) : bigSep Finset.univ Φ = Φ () :=
  bigSep_univ_eq_bigSepL [()] (by decide) (by decide) Φ

theorem ok_split (Φ : OK → sProp 𝕄) : bigSep Finset.univ Φ
    = iprop((bigSep Finset.univ (fun d => Φ (.inl (.inl d))) ∗ bigSep Finset.univ (fun j => Φ (.inl (.inr j))))
        ∗ bigSep Finset.univ (fun t => Φ (.inr t))) := by
  rw [bigSep_univ_sum, bigSep_univ_sum]; rfl
theorem ck_split (Φ : CK → sProp 𝕄) : bigSep Finset.univ Φ = iprop(Φ (.inl ()) ∗ bigSep Finset.univ (fun k => Φ (.inr k))) := by
  rw [bigSep_univ_sum, on_unit]; rfl

/-- The blocks, by step and position. -/
def blkE (c : Dev nD) : Fin 8 × Fin 4 ≃ Dev nD :=
  Equiv.ofBijective (fun p => blk c p.1 p.2) ((Fintype.bijective_iff_injective_and_card _).mpr
    ⟨fun p p' h => by
      have h' : 4 * ((c.val / 4 + 15 - p.1.val) % 8) + p.2.val = 4 * ((c.val / 4 + 15 - p'.1.val) % 8) + p'.2.val := congrArg Fin.val h
      have := p.1.isLt; have := p'.1.isLt; have := p.2.isLt; have := p'.2.isLt
      exact Prod.ext (Fin.ext (by omega)) (Fin.ext (by omega)), by rw [Fintype.card_prod, Fintype.card_fin, Fintype.card_fin]; exact (Fintype.card_fin 32).symm⟩)

theorem by_blk (c : Dev nD) (Φ : Dev nD → sProp 𝕄) :
    bigSep Finset.univ Φ = bigSep Finset.univ (fun t : Fin 8 => bigSep Finset.univ (fun b : Fin 4 => Φ (blk c t b))) := by
  rw [bigSep_univ_equiv (blkE c) Φ, bigSep_univ_prod]; rfl

/-! ### What a device starts from -/

variable (K : Dev nD × CK → ℕ)

/-- The tokens of the duties device `c` pays. -/
def payToks (c : Dev nD) : sProp 𝕄 :=
  iprop(bigSep Finset.univ (fun d : Fin 32 => dutyTok ER (barCell (peer c d)) 0 c)
    ∗ bigSep Finset.univ (fun d : Fin 32 => dutyTok ER (sCell c d) 0 0)
    ∗ bigSep Finset.univ (fun d : Fin 32 => dutyTok ER (rCell (peer c d) c) 0 0)
    ∗ bigSep Finset.univ (fun t : Fin 8 => dutyTok ER (wCell c t) 0 0))
/-- Its positions in its own cells, and these tokens. -/
def linear (c : Dev nD) : sProp 𝕄 :=
  iprop(bigSep Finset.univ (fun k : CK => atPos ER (kcell (c, k)) 0 ∅ 0) ∗ payToks c)
/-- The credits of the launch. -/
def credits (c : Dev nD) : sProp 𝕄 :=
  iprop(cred (tallyAt (barCell c) () 31) ∗ bigSep Finset.univ (fun j : Dev nD => cred (tallyAt (rCell c j) () N)))
/-- The closed semaphores at the end. -/
def closed (c : Dev nD) : sProp 𝕄 :=
  iprop(semVal (barCell c) 0 ∗ bigSep Finset.univ (fun k : OK => semVal (kcell (c, .inr k)) 0))

def stages (c : Dev nD) (fo : (cc0_stg3_0 : Ref sig .tc).ty.Contents (Elt F)) : sProp 𝕄 :=
  iprop((((c : Thread nD τ).loc cc0_stg1_0) ↦{fullShare} sxstg m ρ c) ∗ (((c : Thread nD τ).loc cc0_stg2_0) ↦{fullShare} swstg m ρ c)
    ∗ (((c : Thread nD τ).loc cc0_stg3_0) ↦{fullShare} fo))

/-- Up to the sends: every transfer under way. -/
def afterSends (c : Dev nD) : sProp 𝕄 :=
  iprop(ow c 0 ∗ semVal (barCell c) 0 ∗ bigSep Finset.univ (fun k : OK => pend c k))

theorem sound_start (c : Dev nD) (k : PK (F := F)) (Q : PUnit → sProp 𝕄) :
    iprop(records m ρ K ∗ linear c ∗ credits c ∗ levAts L lv ∗ wPts m c ∗ gPts c ∗ bPts c ∗ ow c (O₀ c) ∗ xPts m ρ c)
      ⊢ iprop((afterSends c -∗ Runs c k Q)
          -∗ Runs c (list8.foldr (copyOp c) <| list31.foldr (signalOp c) <| barWaitOp <| list32.foldr (sendOp c) k) Q) := by
  unfold linear payToks credits afterSends
  rw [ck_split, ok_split]
  iintro ⟨#HR, ⟨⟨HaB, ⟨HaS, HaR⟩, HaW⟩, HtB, HtS, HtR, HtW⟩, ⟨HcB, HcR⟩, #Hlev, Hw, Hg, Hb, HO, Hx⟩ Hk
  ihave Hw := (w_split m c) $$ Hw
  ihave Hb := (b_split c) $$ Hb
  ihave Hg := (g_split c) $$ Hg
  ihave Hx := (x_split m ρ c) $$ Hx
  iapply (copy_phase m ρ K c list8) $$ [Hw Hb HtW]
  · isplitr; · iexact HR
    rw [← on8, bigSep_sep', bigSep_sep']
    isplitl [Hw]; · iexact Hw
    isplitl [Hb] <;> iassumption
  iintro HcW
  -- its own gather block stays, the others go out with the signals
  ihave Hg := (Entails.of_eq (bigSep_univ_equiv (peerE c) (fun j : Dev nD => gAny c j))) $$ Hg
  ihave Hs := (Entails.of_eq ((bigSep_sep' Finset.univ (fun d : Fin 32 => dutyTok ER (barCell (peer c d)) 0 c)
    (fun d : Fin 32 => gAny (F := F) c (peerE c d))).symm.trans (on31 _))) $$ [HtB Hg]
  · isplitl [HtB] <;> iassumption
  icases Hs with ⟨⟨-, Hg0⟩, Hs⟩
  iapply (signal_phase m ρ K c list31 (by decide)) $$ [HO Hs]
  · isplitr; · iexact HR
    isplitl [HO]; · iexact HO
    iexact Hs
  iintro HO
  iapply (bar_phase m ρ K c) $$ [HcB HO HaB]
  · isplitr; · iexact HR
    isplitl [HcB]; · iexact HcB
    isplitl [HO]; · iexact HO
    isplitr; · iexact Hlev
    iexact HaB
  iintro ⟨HO, HzB, Hg⟩
  ihave Hg0 := (Entails.of_eq (congrArg (fun p : Dev nD => gAny (F := F) c p) (show peerE c 0 = c from peer_zero c))) $$ Hg0
  ihave Hg := (Entails.of_eq (bigSep_univ_at (fun p : Dev nD => gAny (F := F) p c) c).symm) $$ [Hg0 Hg]
  · isplitl [Hg0] <;> iassumption
  ihave Hg := (Entails.of_eq (bigSep_univ_equiv (peerE c) (fun p : Dev nD => gAny p c))) $$ Hg
  iapply (send_phase m ρ K c list32) $$ [HO Hx Hg HtS HtR]
  · isplitr; · iexact HR
    isplitl [HO]; · iexact HO
    rw [← on32, bigSep_sep', bigSep_sep', bigSep_sep']
    isplitl [Hx]; · iexact Hx
    isplitl [Hg]; · iexact Hg
    isplitl [HtS] <;> iassumption
  iintro ⟨HO, HcS⟩
  ihave HcS := (Entails.of_eq (on32 (fun d => cred (tallyAt (sCell c d) () N))).symm) $$ HcS
  ihave HcW := (Entails.of_eq (on8 (fun t => cred (tallyAt (wCell c t) () NW))).symm) $$ HcW
  iapply Hk
  isplitl [HO]; · iexact HO
  isplitl [HzB]; · iexact HzB
  rw [ok_split]
  unfold pend
  rw [bigSep_sep', bigSep_sep', bigSep_sep']
  isplitl [HcS HaS HcR HaR]
  · isplitl [HcS HaS]
    · isplitl [HcS]; · iexact HcS
      iexact HaS
    · isplitl [HcR]; · iexact HcR
      iexact HaR
  · isplitl [HcW]; · iexact HcW
    iexact HaW

/-- From the sends to the end. -/
theorem sound_end (c : Dev nD) (fo : (cc0_stg3_0 : Ref sig .tc).ty.Contents (Elt F)) (k : PK (F := F)) (Q : PUnit → sProp 𝕄) :
    iprop(records m ρ K ∗ afterSends c ∗ stages m ρ c fo)
      ⊢ iprop(((ow c 0 ∗ closed c ∗ wPts m c ∗ gPts c ∗ bPts c ∗ xPts m ρ c ∗ stages m ρ c (outAt m ρ c)) -∗ Runs c k Q)
          -∗ Runs c (compute c <| list32.foldr (sWaitOp c) k) Q) := by
  unfold afterSends closed
  rw [compute_eq, ok_split, ok_split]
  iintro ⟨#HR, ⟨HO, HzB, ⟨HpS, HpR⟩, HpW⟩, Hst⟩ Hk
  ihave HpR := (Entails.of_eq (by_blk c (fun j => pend c (.inl (.inr j))))) $$ HpR
  ihave Hin := (show iprop(bigSep Finset.univ (fun t : Fin 8 => pend (F := F) c (.inr t))
      ∗ bigSep Finset.univ (fun t : Fin 8 => bigSep Finset.univ (fun b : Fin 4 => pend (F := F) c (.inl (.inr (blk c t b))))))
        ⊢ iprop(bigSepL (stepList.map Prod.fst) (fun t => stepIn (F := F) c t) ∗ stepIn (F := F) c 7)
    from (Entails.of_eq (bigSep_sep' Finset.univ _ _).symm).trans (Entails.of_eq (on71 (fun t => stepIn (F := F) c t)))) $$ [HpW HpR]
  · isplitl [HpW] <;> iassumption
  icases Hin with ⟨Hin, Hin7⟩
  iapply (steps_phase m ρ K c stepList) $$ [HO Hin]
  · isplitr; · iexact HR
    isplitl [HO] <;> iassumption
  iintro ⟨HO, Hout⟩
  iapply (step_phase m ρ K c 7) $$ [HO Hin7]
  · isplitr; · iexact HR
    isplitl [HO]; · iexact HO
    iexact Hin7
  iintro ⟨HO, Hout7⟩
  unfold stages
  iapply (fin_phase m ρ c) $$ Hst
  iintro Hst
  iapply (swait_phase m ρ K c list32) $$ [HO HpS]
  · isplitr; · iexact HR
    isplitl [HO]; · iexact HO
    rw [← on32]; iexact HpS
  iintro ⟨HO, Hd⟩
  ihave Hd := (show bigSepL list32 (fun d => done (F := F) m ρ c (.inl (.inl d)))
      ⊢ iprop(bigSep Finset.univ (fun d : Fin 32 => semVal (kcell (c, .inr (.inl (.inl d)))) 0) ∗ bigSep Finset.univ (fun d : Fin 32 => xOwn (F := F) m ρ c d))
    from (Entails.of_eq (on32 _).symm).trans (Entails.of_eq (bigSep_sep' Finset.univ _ _))) $$ Hd
  icases Hd with ⟨HzS, Hx⟩
  ihave Hx := (x_join m ρ c) $$ Hx
  ihave Hout := (Entails.of_eq (on71 (fun t => stepOut (F := F) m ρ c t)).symm) $$ [Hout Hout7]
  · isplitl [Hout]; · iexact Hout
    iexact Hout7
  ihave Hout := (show bigSep Finset.univ (fun t => stepOut (F := F) m ρ c t)
      ⊢ iprop(bigSep Finset.univ (fun t : Fin 8 => done (F := F) m ρ c (.inr t))
        ∗ bigSep Finset.univ (fun t : Fin 8 => bigSep Finset.univ (fun b : Fin 4 => gDone (F := F) c (blk c t b))))
    from Entails.of_eq (bigSep_sep' Finset.univ _ _)) $$ Hout
  icases Hout with ⟨HdW, HdR⟩
  ihave HdR := (Entails.of_eq ((by_blk c (fun j => gDone c j)).symm.trans
    (bigSep_sep' Finset.univ (fun j : Dev nD => semVal (rCell c j) 0) (fun j : Dev nD => gAny (F := F) c j)))) $$ HdR
  icases HdR with ⟨HzR, Hg⟩
  ihave Hg := (g_join c) $$ Hg
  ihave HdW := (show bigSep Finset.univ (fun t : Fin 8 => done (F := F) m ρ c (.inr t))
      ⊢ iprop(bigSep Finset.univ (fun t : Fin 8 => semVal (wCell c t) 0)
        ∗ bigSep Finset.univ (fun t : Fin 8 => bOwn (F := F) m c t) ∗ bigSep Finset.univ (fun t : Fin 8 => wOwn (F := F) m c t))
    from (Entails.of_eq (bigSep_sep' Finset.univ _ _)).trans
      (Entails.of_eq (congrArg (fun P => iprop(bigSep Finset.univ (fun t : Fin 8 => semVal (wCell c t) 0) ∗ P))
        (bigSep_sep' Finset.univ (fun t : Fin 8 => bOwn (F := F) m c t) (fun t : Fin 8 => wOwn m c t))))) $$ HdW
  icases HdW with ⟨HzW, Hb, Hw⟩
  ihave Hb := (b_join m c) $$ Hb
  ihave Hw := (w_join m c) $$ Hw
  iapply Hk
  isplitl [HO]; · iexact HO
  isplitl [HzB HzS HzR HzW]
  · isplitl [HzB]; · iexact HzB
    isplitl [HzS HzR]
    · isplitl [HzS]; · iexact HzS
      iexact HzR
    · iexact HzW
  isplitl [Hw]; · iexact Hw
  isplitl [Hg]; · iexact Hg
  isplitl [Hb]; · iexact Hb
  isplitl [Hx]; · iexact Hx
  iexact Hst

theorem sound_prog (c : Dev nD) (fo : (cc0_stg3_0 : Ref sig .tc).ty.Contents (Elt F)) (Q : PUnit → sProp 𝕄) :
    iprop(records m ρ K ∗ linear c ∗ credits c ∗ levAts L lv ∗ wPts m c ∗ gPts c ∗ bPts c ∗ ow c (O₀ c) ∗ xPts m ρ c ∗ stages m ρ c fo
        ∗ ((ow c 0 ∗ closed c ∗ wPts m c ∗ gPts c ∗ bPts c ∗ xPts m ρ c ∗ stages m ρ c (outAt m ρ c)) -∗ Q ⟨⟩))
      ⊢ Runs c prog Q := by
  unfold prog
  rw [show ∀ k : Dev nD → PK (F := F), Runs c (.op .deviceId k) Q = Runs c (k c) Q from fun k => by simp only [wp_deviceId]]
  iintro ⟨#HR, Hl, Hc, #Hlev, Hw, Hg, Hb, HO, Hx, Hst, Hk⟩
  iapply (sound_start m ρ K c) $$ [Hl Hc Hw Hg Hb HO Hx]
  · isplitr; · iexact HR
    isplitl [Hl]; · iexact Hl
    isplitl [Hc]; · iexact Hc
    isplitr; · iexact Hlev
    isplitl [Hw]; · iexact Hw
    isplitl [Hg]; · iexact Hg
    isplitl [Hb]; · iexact Hb
    isplitl [HO] <;> iassumption
  iintro Ha
  iapply (sound_end m ρ K c fo) $$ [Ha Hst]
  · isplitr; · iexact HR
    isplitl [Ha] <;> iassumption
  iintro H
  unfold Runs; rw [wp_ret]; imodintro
  iapply Hk
  iexact H

end Cert.KernelIdeal.Hand
-- ==== Proof.Launch.lean ====
/-
  The launch: the pipeline's proof data, what the devices are given together (cells, tokens, credits), and the run.
-/
module

public import proofs.«01_k».proof.Proof.Body
public import Idealize.ShloMosaic.Lib.Pipeline.CollectiveSegs

@[expose] public section

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ### The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What a device's body starts from, its own scratch aside. -/
def start (c : Dev nD) : sProp 𝕄 :=
  iprop((∃ K, records m ρ K ∗ linear c) ∗ credits c ∗ levAts L lv ∗ wPts m c)
def Φ₀ (c : Dev nD) : sProp 𝕄 := iprop(start m ρ c ∗ gPts c ∗ bPts c)
def Φ₁ (c : Dev nD) : sProp 𝕄 := iprop(closed c ∗ wPts m c ∗ gPts c ∗ bPts c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => sxstg m ρ c
    | ⟨2, _⟩ => swstg m ρ c
    | ⟨3, _⟩ => outAt m ρ c
  Φ t := match t with
    | ⟨0, _⟩ => Φ₀ m ρ c
    | ⟨_ + 1, _⟩ => Φ₁ m c
  q _ := fullShare
  owed t := match t with
    | ⟨0, _⟩ => O₀ c
    | ⟨_ + 1, _⟩ => 0

theorem fetch_0 (t : Fin cfg0.N) : (cfg0.win (0 : Fin 4)).fetch t = true := by rw [fin_N t]; rfl
theorem fetch_1 (t : Fin cfg0.N) : (cfg0.win (1 : Fin 4)).fetch t = true := by rw [fin_N t]; rfl
theorem fetch_2 (t : Fin cfg0.N) : (cfg0.win (2 : Fin 4)).fetch t = true := by rw [fin_N t]; rfl

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def bodyPost (c : Dev nD) : sProp 𝕄 :=
  iprop(Φ₁ m c ∗ (dats m ρ 0 c).owesAt () t₀.succ ∗ stg c cc0_stg0_0 (xstg m ρ c) ∗ stg c cc0_stg1_0 (sxstg m ρ c)
    ∗ stg c cc0_stg2_0 (swstg m ρ c) ∗ stg c cc0_stg3_0 (outAt m ρ c))

theorem body_bridge (c : Dev nD) : bodyPre m ρ c ⊢ Runs c (prog (F := F)) (fun _ => bodyPost m ρ c) := by
  unfold bodyPre Φ₀ start
  iintro ⟨⟨⟨⟨%K, #HR, Hl⟩, Hc, #Hlev, Hw⟩, Hg, Hb⟩, Ho, ⟨%d0, %g0, %h0, H0⟩, ⟨%d1, %g1, %h1, H1⟩, ⟨%d2, %g2, %h2, H2⟩, ⟨%d3, %g3, %h3, H3⟩⟩
  have e0 : g0 = xstg m ρ c := by rw [h0]; unfold Dat.before; rw [if_pos (fetch_0 t₀)]; rfl
  have e1 : g1 = sxstg m ρ c := by rw [h1]; unfold Dat.before; rw [if_pos (fetch_1 t₀)]; rfl
  have e2 : g2 = swstg m ρ c := by rw [h2]; unfold Dat.before; rw [if_pos (fetch_2 t₀)]; rfl
  subst e0 e1 e2
  unfold Dat.owesAt Pipeline.owesWithin
  icases Ho with ⟨%W, %hW, HO⟩
  rw [show (dats m ρ 0 c).owed t₀.castSucc = O₀ c from rfl]
  iapply (sound_prog m ρ K c g3)
  isplitr; · iexact HR
  isplitl [Hl]; · iexact Hl
  isplitl [Hc]; · iexact Hc
  isplitr; · iexact Hlev
  isplitl [Hw]; · iexact Hw
  isplitl [Hg]; · iexact Hg
  isplitl [Hb]; · iexact Hb
  isplitl [HO]; · unfold ow; iexists W; iexact HO
  isplitl [H0]; · unfold xPts; iexact H0
  isplitl [H1 H2 H3]
  · unfold stages
    isplitl [H1]; · iexact H1
    isplitl [H2] <;> iassumption
  unfold bodyPost Φ₁ Dat.owesAt Pipeline.owesWithin stages ow xPts
  rw [show (dats m ρ 0 c).owed t₀.succ = 0 from rfl]
  iintro ⟨⟨%W', HO⟩, Hz, Hw, Hg, Hb, Hx, H1, H2, H3⟩
  isplitl [Hz Hw Hg Hb]
  · isplitl [Hz]; · iexact Hz
    isplitl [Hw]; · iexact Hw
    isplitl [Hg] <;> iassumption
  isplitl [HO]
  · iexists W'
    isplitr; · ipureintro; exact fun _ _ => Or.inl trivial
    iexact HO
  isplitl [Hx]
  · iexists _; isplitr; · (ipureintro; rfl)
    iexact Hx
  isplitl [H1]
  · iexists _; isplitr; · (ipureintro; rfl)
    iexact H1
  isplitl [H2]
  · iexists _; isplitr; · (ipureintro; rfl)
    iexact H2
  iexists _; isplitr; · (ipureintro; rfl)
  iexact H3

/-- The library's body obligation on one device. -/
theorem body_obligation (c : Dev nD) : BodyObligation (dats (F := F) m ρ 0 c) (defs₀ (F := F)) 𝒱₀ () Set.univ := fun t => by
  rw [fin_N t]
  rw [show ∀ Φ : Fin cfg0.W → sProp 𝕄, bigSep Finset.univ Φ = iprop(Φ (0 : Fin 4) ∗ Φ (1 : Fin 4) ∗ Φ (2 : Fin 4) ∗ Φ (3 : Fin 4)) from fun Φ => bigSep_W0 Φ,
    show ∀ Φ : Fin cfg0.W → sProp 𝕄, bigSep Finset.univ Φ = iprop(Φ (0 : Fin 4) ∗ Φ (1 : Fin 4) ∗ Φ (2 : Fin 4) ∗ Φ (3 : Fin 4)) from fun Φ => bigSep_W0 Φ]
  simp only [owns_whole_pts]
  show bodyPre m ρ c ⊢ wp frame (wpE (defs₀ (F := F)) 𝒱₀ c none) Set.univ
    (cc0_body xM (Memref.isWhole_whole _) wM (Memref.isWhole_whole _) sxM (Memref.isWhole_whole _) swM (Memref.isWhole_whole _)
      oM (Memref.isWhole_whole _) gM (Memref.isWhole_whole _) bM (Memref.isWhole_whole _) cc0_scratch2 cc0_scratch3 cc0_scratch4) (fun _ => bodyPost m ρ c)
  rw [body_eq]
  exact body_bridge m ρ c

/-! ### The launch -/

theorem stage_sem_lt : ∀ (w : Fin 4) (s : Fin (spec0 w).nbuf), ((spec0 w).sem s).val < 4 := by decide
theorem onum_ge (k : OK) : 4 ≤ onum k := by
  rcases k with (d | j) | t <;> simp only [onum] <;> omega
theorem osem_scoped : ∀ k : OK, (osem k).isScoped .tc = true := by decide +kernel
theorem stage_ne (k : OK) (w : Fin 4) (s : Fin (spec0 w).nbuf) : osem k ≠ .dma ((spec0 w).sem s) := fun h => by
  obtain ⟨q, hq, e⟩ := osem_eq k
  rw [hq] at h; injection h with h
  have := stage_sem_lt w s
  have := onum_ge k
  rw [← h] at *; omega
theorem ownSemFacts : Pipeline.OwnSemFacts cfg0.spec osem := ⟨osem_scoped, osem_injective, stage_ne⟩

theorem share_eq (c : Dev nD) (w : Fin cfg0.W) : (dats m ρ 0 c).share w = fullShare := by unfold Dat.share; split <;> rfl

def ringCells : Finset (GSem nD τ sig) := Finset.univ.map ⟨kcell, kcell_injective⟩

/-- The duties of a device's own cells: its barrier's, one per device, and one of each other cell. -/
def tokKey : Fin 32 ⊕ OK → CK × Fin 32
  | .inl p => (.inl (), p)
  | .inr k => (.inr k, 0)
theorem tokKey_injective : Function.Injective tokKey := by
  rintro (p | k) (p' | k') h
  · exact congrArg Sum.inl (congrArg Prod.snd h)
  · cases congrArg Prod.fst h
  · cases congrArg Prod.fst h
  · exact congrArg Sum.inr (Sum.inr.inj (congrArg Prod.fst h))
def tokOf (x : Dev nD × (Fin 32 ⊕ OK)) : GSem nD τ sig × ℕ × Fin 32 := (kcell (x.1, (tokKey x.2).1), 0, (tokKey x.2).2)
theorem tokOf_injective : Function.Injective tokOf := by
  rintro ⟨c, x⟩ ⟨c', x'⟩ h
  have h1 : (c, (tokKey x).1) = (c', (tokKey x').1) := kcell_injective (congrArg (fun y : GSem nD τ sig × ℕ × Fin 32 => y.1) h)
  have h2 : (tokKey x).2 = (tokKey x').2 := congrArg (fun y : GSem nD τ sig × ℕ × Fin 32 => y.2.2) h
  exact Prod.ext (show c = c' from congrArg (fun y : Dev nD × CK => y.1) h1) (tokKey_injective (Prod.ext (congrArg (fun y : Dev nD × CK => y.2) h1) h2))
def ringToks : Finset (GSem nD τ sig × ℕ × Fin 32) := Finset.univ.map ⟨tokOf, tokOf_injective⟩

def u₀ : UU :=
  (initOf (Pipeline.cells cfgs cellOf_inj) (Pipeline.launchToks cfgs cellOf_inj), initOf ringCells ringToks)

/-- The duty tokens of a device's own cells. -/
def toks (c : Dev nD) : sProp 𝕄 :=
  iprop(bigSep Finset.univ (fun p : Fin 32 => dutyTok ER (barCell c) 0 p)
    ∗ (bigSep Finset.univ (fun d : Fin 32 => dutyTok ER (sCell c d) 0 0) ∗ bigSep Finset.univ (fun j : Fin 32 => dutyTok ER (rCell c j) 0 0))
    ∗ bigSep Finset.univ (fun t : Fin 8 => dutyTok ER (wCell c t) 0 0))

def G (c : Dev nD) : sProp 𝕄 :=
  iprop((bigSep Finset.univ fun k : CK => roundState ER (ringRd m ρ) (kcell (c, k)) 0)
    ∗ (bigSep Finset.univ fun k : CK => iprop(atPos ER (kcell (c, k)) 0 ∅ 0 ∗ reached ER (kcell (c, k)) 0)) ∗ toks c)
def G' (c : Dev nD) : sProp 𝕄 := iprop(∃ K, records m ρ K ∗ linear c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, ok_split]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

abbrev ownSems (c : Dev nD) : sProp 𝕄 := Pipeline.ownSems0 (Ix := Unit) (Name := ℕ) (U := UU) (Lvl := ℕ) (Val := Elt F) (τ := τ) osem c

theorem unscopedSems0_eq (c : Dev nD) : (unscopedSems0 c : sProp 𝕄) = semVal (barCell c) 0 := by
  unfold unscopedSems0; rw [bigSep_eq_bigSepL_of_eq [SemLoc.reg barS] (by decide) (by decide)]; rfl
theorem sems0_eq (c : Dev nD) :
    iprop(ownSems (F := F) c ∗ unscopedSems0 c) ⊢ (bigSep Finset.univ fun k : CK => semVal (kcell (c, k)) 0 : sProp 𝕄) := by
  rw [unscopedSems0_eq, ck_split]
  iintro ⟨HS, HB⟩
  isplitl [HB]; · iexact HB
  unfold ownSems Pipeline.ownSems0; iexact HS

theorem core_alloc (c : Dev nD) :
    iprop(ownSems (F := F) c ∗ unscopedSems0 c ∗ G m ρ c)
      ⊢ |={Set.univ}=> iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Two finite conjunctions in the other order. -/
theorem swap (Φ : Fin 32 → Fin 32 → sProp 𝕄) :
    (bigSep Finset.univ fun a => bigSep Finset.univ fun b => Φ a b) = bigSep Finset.univ fun b => bigSep Finset.univ fun a => Φ a b := by
  rw [← bigSep_univ_prod (fun x : Fin 32 × Fin 32 => Φ x.1 x.2), bigSep_univ_equiv (Equiv.prodComm (Fin 32) (Fin 32)), bigSep_univ_prod]; rfl

/-- The tokens dealt out: a barrier token to the device that signals with it, a receive token to the device that sends. -/
theorem toks_dealt : (bigSep Finset.univ fun c : Dev nD => (toks c : sProp 𝕄)) ⊢ bigSep Finset.univ fun c : Dev nD => payToks c := by
  have hB : (bigSep Finset.univ fun c : Dev nD => bigSep Finset.univ fun p : Fin 32 => (dutyTok ER (barCell c) 0 p : sProp 𝕄))
      = bigSep Finset.univ fun c : Dev nD => bigSep Finset.univ fun d : Fin 32 => dutyTok ER (barCell (peer c d)) 0 c := by
    refine (swap fun c p : Fin 32 => (dutyTok ER (barCell c) 0 p : sProp 𝕄)).trans ?_
    exact bigSep_congr fun p _ => bigSep_univ_equiv (peerE p) (fun c : Dev nD => (dutyTok ER (barCell c) 0 p : sProp 𝕄))
  have hR : (bigSep Finset.univ fun c : Dev nD => bigSep Finset.univ fun j : Fin 32 => (dutyTok ER (rCell c j) 0 0 : sProp 𝕄))
      = bigSep Finset.univ fun c : Dev nD => bigSep Finset.univ fun d : Fin 32 => dutyTok ER (rCell (peer c d) c) 0 0 := by
    refine (swap fun c p : Fin 32 => (dutyTok ER (rCell c p) 0 0 : sProp 𝕄)).trans ?_
    exact bigSep_congr fun p _ => bigSep_univ_equiv (peerE p) (fun c : Dev nD => (dutyTok ER (rCell c p) 0 0 : sProp 𝕄))
  unfold toks payToks
  rw [bigSep_sep', bigSep_sep', bigSep_sep', bigSep_sep', bigSep_sep', bigSep_sep', hB, hR]
  iintro ⟨H1, ⟨H2, H3⟩, H4⟩
  isplitl [H1]; · iexact H1
  isplitl [H2]; · iexact H2
  isplitl [H3]; · iexact H3
  iexact H4

theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CK => iprop(∃ κ : ℕ, cellInv ER (ringRd m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (ringRd m ρ) κ (kcell ck) : sProp 𝕄))) $$ HI
  icases HK with ⟨%K, #HI⟩
  ihave Htk := (toks_dealt (F := F)) $$ Htok
  iapply (with_records (R := records m ρ K) (Φ := fun c => linear c) fun c _ =>
    show iprop(records m ρ K ∗ linear c) ⊢ G' m ρ c from exists_intro (Φ := fun K => iprop(records m ρ K ∗ linear c)) K)
  isplitr
  · unfold records; isplitl; · iexact HI
    iexact HR
  · iapply (Entails.of_eq (bigSep_sep' Finset.univ (fun c : Dev nD => bigSep Finset.univ fun k : CK => (atPos ER (kcell (c, k)) 0 ∅ 0 : sProp 𝕄)) payToks).symm)
    isplitl [Hat]; · iexact Hat
    iexact Htk

theorem glob : (bigSep Finset.univ fun c => iprop(ownSems (F := F) c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem tally_k (a b : Dev nD × CK) (n : ℕ) : (tallyAt (kcell a) () n : CellTallies nD τ sig Unit) (kcell b) () = if b = a then n else 0 := by
  rw [tallyAt_apply]
  by_cases h : b = a
  · rw [if_pos ⟨congrArg kcell h, rfl⟩, if_pos h]
  · rw [if_neg fun h' => h (kcell_injective h'.1), if_neg h]

theorem foldr_tally (f : Fin 32 → CellTallies nD τ sig Unit) (O : CellTallies nD τ sig Unit) (g : GSem nD τ sig) (l : List (Fin 32)) :
    (l.foldr (fun d O => O + f d) O) g () = O g () + (l.map fun d => f d g ()).sum := by
  induction l with
  | nil => rfl
  | cons d l ih =>
    show (l.foldr (fun d O => O + f d) O) g () + f d g () = _
    rw [ih, List.map_cons, List.sum_cons]; omega

theorem sum32 (f : Fin 32 → ℕ) : (list32.map f).sum = ∑ d, f d := by
  rw [← List.sum_toFinset f (show list32.Nodup by decide), show list32.toFinset = Finset.univ by decide]
theorem sum31 (f : Fin 32 → ℕ) : f 0 + (list31.map f).sum = ∑ d, f d := by
  rw [← sum32]; exact (List.sum_cons (a := f 0) (l := list31.map f)).symm

theorem sum_peer (s c : Dev nD) (n : ℕ) : (∑ d, if c = peer s d then n else 0) = n :=
  ((peerE s).sum_comp fun p : Dev nD => if c = p then n else 0).trans
    ((Finset.sum_ite_eq Finset.univ c fun _ => n).trans (if_pos (Finset.mem_univ c)))

theorem owed_recv (s c j : Dev nD) : O₀ s (rCell c j) () = if j = s then N else 0 := by
  unfold O₀ owedSig owedSend
  rw [foldr_tally, foldr_tally, sum32]
  simp only [tally_k]
  have h0 : (list31.map fun d : Fin 32 => if ((c, .inr (.inl (.inr j))) : Dev nD × CK) = (peer s d, .inl ()) then 1 else 0).sum = 0 :=
    List.sum_eq_zero fun x hx => by
      obtain ⟨d, -, rfl⟩ := List.mem_map.mp hx
      exact if_neg fun h => by cases congrArg Prod.snd h
  rw [h0]
  by_cases h : j = s
  · rw [if_pos h, Finset.sum_congr rfl fun d _ => if_congr (Iff.intro (fun e => congrArg Prod.fst e) (fun e => by subst e; subst h; rfl))
      rfl rfl, sum_peer s c N]
    show (0 : ℕ) + N + 0 = N
    omega
  · rw [if_neg h, Finset.sum_eq_zero fun d _ => if_neg fun e => h (by
      have e2 := congrArg Prod.snd e
      exact Sum.inr.inj (Sum.inl.inj (Sum.inr.inj e2)))]
    rfl

theorem owed_bar (s c : Dev nD) : (if c = s then 1 else 0) + O₀ s (barCell c) () = 1 := by
  unfold O₀ owedSig owedSend
  rw [foldr_tally, foldr_tally, sum32]
  simp only [tally_k]
  rw [Finset.sum_eq_zero fun d _ => if_neg fun e => by cases congrArg Prod.snd e]
  have h1 := sum31 fun d : Fin 32 => if ((c, .inl ()) : Dev nD × CK) = (peer s d, .inl ()) then 1 else 0
  rw [Finset.sum_congr rfl fun d _ => if_congr (Iff.intro (fun e => congrArg Prod.fst e) (fun e => congrArg (fun p : Dev nD => ((p, .inl ()) : Dev nD × CK)) e)) rfl rfl, sum_peer s c 1] at h1
  have h2 : (if ((c, .inl ()) : Dev nD × CK) = (peer s 0, .inl ()) then 1 else 0) = if c = s then 1 else 0 :=
    if_congr (by rw [peer_zero]; exact Iff.intro (fun e => congrArg Prod.fst e) (fun e => congrArg (fun p : Dev nD => ((p, .inl ()) : Dev nD × CK)) e)) rfl rfl
  rw [h2] at h1
  show _ + ((0 : ℕ) + 0 + _) = 1
  omega

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same]
  have h := Finset.sum_congr (s₁ := (Finset.univ : Finset (Dev nD))) rfl fun s _ => owed_bar s c
  rw [Finset.sum_add_distrib, Finset.sum_ite_eq Finset.univ c fun _ => 1, if_pos (Finset.mem_univ _), Finset.sum_const, Finset.card_univ] at h
  have h32 : Fintype.card (Dev nD) • 1 = 32 := by show Fintype.card (Fin 32) • 1 = 32; rw [Fintype.card_fin]; rfl
  rw [h32] at h
  exact Nat.add_left_cancel (h : 1 + _ = 1 + 31)

theorem launch_recv (c j : Dev nD) :
    tallyOn (rCell c j) (launchCredit (Pipeline.owing O₀) 0 (rCell c j)) = (tallyAt (rCell c j) () N : CellTallies nD τ sig Unit) := by
  unfold tallyAt; refine congrArg _ (Finsupp.ext fun u => ?_); cases u
  rw [Pipeline.launchCredit_owing, Finsupp.single_eq_same, Finset.sum_congr rfl fun s _ => owed_recv s c j,
    Finset.sum_ite_eq Finset.univ j fun _ => N, if_pos (Finset.mem_univ _)]

theorem creds (c : Dev nD) : (Pipeline.launchCred O₀ c : sProp 𝕄) ⊢ credits c := by
  unfold Pipeline.launchCred
  rw [BI.bigSep_sdiff_split (Finset.subset_univ (Finset.univ.map ⟨csem, csem_injective⟩)), bigSep_map, ck_split, ok_split]
  show iprop(_ ∗ _) ⊢ _
  unfold credits
  iintro ⟨⟨HB, ⟨-, HR⟩, -⟩, -⟩
  isplitl [HB]
  · rw [← launch_bar]; iexact HB
  · iapply (show bigSep Finset.univ (fun j : Dev nD => cred (tallyOn (rCell c j) (launchCredit (Pipeline.owing O₀) 0 (rCell c j))))
        ⊢ bigSep Finset.univ (fun j : Dev nD => (cred (tallyAt (rCell c j) () N) : sProp 𝕄))
      from bigSep_mono fun j _ => Entails.of_eq (congrArg cred (launch_recv c j)))
    iexact HR

/-! ### The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  iintro ⟨Hw, Hlev, Hcr, -, HG⟩
  ihave Hc := (creds (F := F) c) $$ Hcr
  imodintro
  unfold start G' wPts wArr
  isplitl
  · isplitl [HG]; · iexact HG
    isplitl [Hc]; · iexact Hc
    isplitl [Hlev]; · iexact Hlev
    iexact Hw
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ gPts bPts
  iintro ⟨Hs, -, Hg, Hb⟩
  isplitl [Hs]; · iexact Hs
  isplitl [Hg]; · iexact Hg
  iexact Hb

/-- What leaves the region: the barrier's counter and the weight, unchanged. -/
def left (c : Dev nD) : sProp 𝕄 := iprop(unscopedSems0 c ∗ wPts m c)

theorem phi1_exit (c : Dev nD) :
    (dats m ρ 0 c).Φ (Fin.last cfg0.N) ⊢ iprop(left m c ∗ ownSems (F := F) c ∗ Pipeline.scopedRest cfg0.spec c) := by
  rw [show (dats m ρ 0 c).Φ (Fin.last cfg0.N) = Φ₁ m c from rfl, scopedRest0_eq]
  unfold Φ₁ left closed gPts bPts ownSems Pipeline.ownSems0
  rw [unscopedSems0_eq]
  iintro ⟨⟨HzB, Hz⟩, Hw, Hg, Hb⟩
  isplitl [HzB Hw]
  · isplitl [HzB] <;> iassumption
  isplitl [Hz]; · iexact Hz
  isplitl [Hg]; · iexact Hg
  iexact Hb

theorem stage_dec (w : Fin 4) (s : Fin (spec0 w).nbuf) : dec (.dma ((spec0 w).sem s)) = none :=
  dec_none fun k => match k with
    | .inl _ => fun h => by cases h
    | .inr k => stage_ne k w s

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_dec w s) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

/-- Every window's array at what the run leaves in it, the weight unchanged, every counter at zero. -/
def QC : PUnit × MemSt nD τ sig (Elt F) → Prop := fun r =>
  (∀ c : Dev nD, (∀ w : Fin cfg0.W, r.2.mem ((cfg0.win w).arr.view.loc (c : Thread nD τ)) = finalA m ρ c w)
    ∧ r.2.mem ((c : Thread nD τ).loc main_arg1) = wArr m c) ∧ r.2.sem = fun _ => 0

theorem read_left (c : Dev nD) (s' : Phys nD τ sig (Elt F)) :
    iprop(left m c ∗ emp ∗ SI s') ⊢ (|={Set.univ}=> iprop(⌜(∀ sm : SemLoc sig, sm.isScoped .tc = false → s'.mem.sem ((c.tc : Thread nD τ), sm) = 0)
      ∧ s'.mem.mem ((c : Thread nD τ).loc main_arg1) = wArr m c⌝ ∗ SI s') : sProp 𝕄) := by
  unfold left wPts
  iintro ⟨⟨Hu, Hw⟩, -, HSI⟩
  ihave Hr := (pointsTo_read_all (Finset.univ : Finset Unit) (fun _ => (c : Thread nD τ).loc main_arg1) (fun _ => wArr m c) s') $$ [Hw HSI]
  · isplitl [Hw]
    · iapply (Entails.of_eq (on_unit (fun _ => iprop(((c : Thread nD τ).loc main_arg1) ↦{fullShare} wArr m c))).symm)
      iexact Hw
    · iexact HSI
  icases Hr with ⟨%hw, HSI⟩
  imod (Pipeline.unscopedSems0_read (X := unscopedSems0 c) (c := c) fupd_intro s') $$ [Hu HSI] with ⟨%hs, HSI⟩
  · isplitl [Hu] <;> iassumption
  imodintro
  isplitr
  · ipureintro; exact ⟨hs, hw () (Finset.mem_univ _)⟩
  · iexact HSI

/-- From any memory with zero counters, for any float values: every weakly fair execution on the 32 devices ends, the
    output array of each at what `finalA` says. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := left m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = wArr m c)
    (hY := read_left m)
    (hQ := fun _ h hs => ⟨fun c => ⟨fun w => (h c).1 w, (h c).2.2.2⟩, sem_eq_zero hs fun c => (h c).2.2.1⟩)

end Cert.KernelIdeal.Hand
-- ==== Proof.Frames.lean ====
/-
  The run read at the buffers of the claims: the arguments end as they began, the result array ends at what the body left.
-/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Pipeline.ValueKit.Geometry

@[expose] public section

set_option maxRecDepth 16384

noncomputable section

namespace Cert.KernelIdeal.Hand

open Cert.KernelIdeal Cert.KernelIdeal.Gen
open Idealize.ShloMosaic
open Idealize.ShloMosaic.TcCoe
open Idealize.SL.Sem
open Idealize.ShloMosaic.Pipeline (Dat Cfg Window)
open Idealize.ShloMosaic.ValueIdx

variable {F : FTy → Type} [FloatOps F]
variable (m : (ℓ : Loc nD τ sig) → Buf (Elt F) ℓ) (ρ : Dev nD → PrngReg)

theorem final_x (c : Dev nD) : finalA m ρ c (0 : Fin 4) = m ((c : Thread nD τ).loc main_arg0) :=
  (dats m ρ 0 c).arrAt_in (0 : Fin 4) rfl _
theorem final_sx (c : Dev nD) : finalA m ρ c (1 : Fin 4) = m ((c : Thread nD τ).loc main_arg2) :=
  (dats m ρ 0 c).arrAt_in (1 : Fin 4) rfl _
theorem final_sw (c : Dev nD) : finalA m ρ c (2 : Fin 4) = m ((c : Thread nD τ).loc main_arg3) :=
  (dats m ρ 0 c).arrAt_in (2 : Fin 4) rfl _

/-- The one write-back writes the whole result array. -/
theorem final_out (c : Dev nD) : finalA m ρ c (3 : Fin 4) = outAt m ρ c := by
  unfold finalA
  exact (dats m ρ 0 c).arrAt_eq_of_after_last (3 : Fin 4) t₀ (by decide +kernel) (outAt m ρ c) (fun j => rfl)

/-- What a window of the whole array stages is the array. -/
theorem xstg_eq (c : Dev nD) : xstg m ρ c = m ((c : Thread nD τ).loc main_arg0) :=
  Memref.read_access_unit_zero (Elt F) main_arg0 (funext fun a => by fin_cases a <;> rfl) _ _
theorem sxstg_eq (c : Dev nD) : sxstg m ρ c = m ((c : Thread nD τ).loc main_arg2) :=
  Memref.read_access_unit_zero (Elt F) main_arg2 (funext fun a => by fin_cases a; rfl) _ _
theorem swstg_eq (c : Dev nD) : swstg m ρ c = m ((c : Thread nD τ).loc main_arg3) :=
  Memref.read_access_unit_zero (Elt F) main_arg3 (funext fun a => by fin_cases a; rfl) _ _

/-- The run at the buffers the claims name: each device's result at `outAt`, its arguments unchanged, no counter left. -/
theorem run_named : θ_run defs (onTc (τ := τ) (main (F := F))) ⟨m, fun _ => 0, ρ⟩ fun r =>
    (∀ c : Dev nD, r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0 :=
  (θ_run defs _ _).mono (fun _ h => ⟨fun c =>
      ⟨((h.1 c).1 (3 : Fin 4)).trans (final_out m ρ c), ((h.1 c).1 (0 : Fin 4)).trans (final_x m ρ c), (h.1 c).2,
        ((h.1 c).1 (1 : Fin 4)).trans (final_sx m ρ c), ((h.1 c).1 (2 : Fin 4)).trans (final_sw m ρ c)⟩, h.2⟩)
    (run_main m ρ)

/-- The frame of the idealized kernel. -/
theorem frame_ideal : Cert.quiescent_KernelIdeal := fun m ρ _ =>
  (θ_run defs _ _).mono (fun _ h => ⟨fun c => (h.1 c).2, h.2⟩) (run_named m ρ)

/-- The kernel's body table is the idealized one's: the two programs have one text. -/
theorem defs_same : Cert.Kernel.defs (F := F) = defs (F := F) := by
  have h : Cert.Kernel.defs₀ (F := F) = defs₀ (F := F) := by
    unfold Cert.Kernel.defs₀ defs₀
    refine congrArg Defs.onTc ?_
    funext ℓ a
    match ℓ, a with
    | 0, (t, s) => rfl
  exact congrArg (Pipeline.defs (pcfgs (F := F))) h

/-- The frame of the kernel: the run at the machine's floats. -/
theorem frame_kernel : Cert.quiescent_Kernel := fun m ρ _ => by
  have h := run_named (F := Bits) m ρ
  rw [← defs_same] at h
  exact (θ_run Cert.Kernel.defs _ _).mono (fun _ h => ⟨fun c => (h.1 c).2, h.2⟩) h

/-- The frame of the reference, which declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

end Cert.KernelIdeal.Hand

end
-- ==== Proof.Sums.lean ====
/-
  What the kernel computes at an index: the eight int8 products and their additions are one integer sum over all 4096
  columns, which an int32 holds.
-/
module

public import proofs.«01_k».proof.Proof.Step
public import Idealize.ShloMosaic.Lib.IntMxu
public import Idealize.ShloMosaic.Lib.Pipeline.Value

@[expose] public section

set_option maxRecDepth 16384

noncomputable section

namespace Cert.KernelIdeal.Hand

open Cert.KernelIdeal Cert.KernelIdeal.Gen
open Idealize.ShloMosaic
open Idealize.ShloMosaic.TcCoe
open Idealize.ShloMosaic.ValueIdx

variable {F : FTy → Type} [FloatOps F]
variable (m : (ℓ : Loc nD τ sig) → Buf (Elt F) ℓ) (ρ : Dev nD → PrngReg)

/-! ### One product -/

abbrev mmD : DotDims S128x512 S512x8192 S128x8192 := dot_S128x512_S512x8192_S128x8192_1_0_0_1_n_n

theorem mm_row (j : S128x8192.Idx) (q : mmD.contr.Idx) : (mmD.lhsIdx j q 0).val = (j 0).val := by
  unfold DotDims.lhsIdx
  rw [dif_neg (show ¬(0 : Fin S128x512.rank) ∈ mmD.lhsBatch by decide),
    dif_pos (show (0 : Fin S128x512.rank) ∈ mmD.lhsNonContracting by decide)]
  rfl
theorem mm_col (j : S128x8192.Idx) (q : mmD.contr.Idx) : (mmD.rhsIdx j q 1).val = (j 1).val := by
  unfold DotDims.rhsIdx
  rw [dif_neg (show ¬(1 : Fin S512x8192.rank) ∈ mmD.rhsBatch by decide),
    dif_pos (show (1 : Fin S512x8192.rank) ∈ mmD.rhsNonContracting by decide)]
  rfl

theorem mm_lhs (j : S128x8192.Idx) (k : Fin 512) :
    mmD.lhsIdx j ((contrEquiv1 mmD 512 rfl rfl).symm k) = ix2 (n0 := 128) (n1 := 512) (j 0) k := funext fun a => Fin.ext (by
  match a with
  | ⟨0, _⟩ => exact mm_row j _
  | ⟨1, _⟩ => exact (mmD.lhsIdx_val_of_single rfl j _).trans (contrEquiv1_symm_val mmD 512 rfl rfl k))

theorem mm_rhs (j : S128x8192.Idx) (k : Fin 512) :
    mmD.rhsIdx j ((contrEquiv1 mmD 512 rfl rfl).symm k) = ix2 (n0 := 512) (n1 := 8192) k (j 1) := funext fun a => Fin.ext (by
  match a with
  | ⟨0, _⟩ => exact (mmD.rhsIdx_val_of_single rfl j _).trans (contrEquiv1_symm_val mmD 512 rfl rfl k)
  | ⟨1, _⟩ => exact mm_col j _)

/-- A product of 512 columns into zero is the integer sum, as a word. -/
theorem mm_apply (g : IVec S128x512 8) (w : IVec S512x8192 8) (j : S128x8192.Idx) :
    matmulI8 IntMxuNumerics.v7x mmD g w (constantI S128x8192 32 0#32) j
      = BitVec.ofInt 32 (∑ k : Fin 512, (g (ix2 (n0 := 128) (n1 := 512) (j 0) k)).toInt
          * (w (ix2 (n0 := 512) (n1 := 8192) k (j 1))).toInt) := by
  rw [matmulI8_exact_of_numel IntMxuNumerics.v7x mmD g w _ j rfl (by decide)]
  refine congrArg (BitVec.ofInt 32) ?_
  unfold dotI8
  rw [← Equiv.sum_comp (contrEquiv1 mmD 512 rfl rfl).symm]
  exact Finset.sum_congr rfl fun k _ => by rw [mm_lhs, mm_rhs]

/-! ### The summands -/

/-- The summand of column `k`: gathered activation times weight. -/
def prodAt (c : Dev nD) (j : S128x8192.Idx) (k : Fin 4096) : ℤ :=
  (gFull m ρ c (ix2 (n0 := 128) (n1 := 4096) (j 0) k)).toInt * (wArr m c (ix2 (n0 := 4096) (n1 := 8192) k (j 1))).toInt

/-- The block of 512 columns that step `t` multiplies. -/
def chunk (c : Dev nD) (t : Fin 8) : Fin 8 := ⟨(c.val / 4 + 15 - t.val) % 8, Nat.mod_lt _ (by decide)⟩

theorem chunk_chunk (c : Dev nD) (t : Fin 8) : chunk c (chunk c t) = t := by
  have := t.isLt
  exact Fin.ext (by show (c.val / 4 + 15 - (c.val / 4 + 15 - t.val) % 8) % 8 = t.val; omega)

/-- Column `k` of block `a`. -/
def colOf (a : Fin 8) (k : Fin 512) : Fin 4096 := ⟨512 * a.val + k.val, by have := a.isLt; have := k.isLt; omega⟩

def partAt (c : Dev nD) (j : S128x8192.Idx) (t : Fin 8) : ℤ := ∑ k : Fin 512, prodAt m ρ c j (colOf (chunk c t) k)

theorem gv_apply (c : Dev nD) (t : Fin 8) (i : Fin 128) (k : Fin 512) :
    gv m ρ c t (ix2 (n0 := 128) (n1 := 512) i k) = gFull m ρ c (ix2 (n0 := 128) (n1 := 4096) i (colOf (chunk c t) k)) := by
  unfold gv
  refine congrArg _ (funext fun a => Fin.ext ?_)
  match a with
  | ⟨0, _⟩ => exact (gLoad_val c t _).1
  | ⟨1, _⟩ => exact (gLoad_val c t _).2

theorem wv_apply (c : Dev nD) (t : Fin 8) (k : Fin 512) (l : Fin 8192) :
    wv m c t (ix2 (n0 := 512) (n1 := 8192) k l) = wArr m c (ix2 (n0 := 4096) (n1 := 8192) (colOf (chunk c t) k) l) := by
  unfold wv
  refine congrArg _ (funext fun a => Fin.ext ?_)
  match a with
  | ⟨0, _⟩ =>
    show k0_off1 c (BitVec.ofNat 32 t.val) 0 + 1 * k.val = _
    rw [k0_off1_eq]; show 512 * ((c.val / 4 + 15 - t.val) % 8) + 1 * k.val = 512 * ((c.val / 4 + 15 - t.val) % 8) + k.val; omega
  | ⟨1, _⟩ =>
    show k0_off1 c (BitVec.ofNat 32 t.val) 1 + 1 * l.val = _
    rw [k0_off1_eq]; show 0 + 1 * l.val = l.val; omega

/-- The product of step `t`. -/
def mmOf (c : Dev nD) (t : Fin 8) : IVec S128x8192 32 :=
  matmulI8 IntMxuNumerics.v7x mmD (gv m ρ c t) (shapeCast S512x8192 (wv1 m c t) shapeCasts_S1x512x8192_S512x8192)
    (constantI S128x8192 32 0#32)

theorem mmOf_apply (c : Dev nD) (t : Fin 8) (j : S128x8192.Idx) : mmOf m ρ c t j = BitVec.ofInt 32 (partAt m ρ c j t) := by
  have e : shapeCast S512x8192 (wv1 m c t) shapeCasts_S1x512x8192_S512x8192 = wv m c t := shapeCast_shapeCast _ _ _
  unfold mmOf
  rw [e, mm_apply]
  refine congrArg (BitVec.ofInt 32) (Finset.sum_congr rfl fun k _ => ?_)
  exact congrArg₂ (fun a b : BitVec 8 => a.toInt * b.toInt) (gv_apply m ρ c t (j 0) k) (wv_apply m c t k (j 1))

/-! ### The eight additions -/

theorem sub_zero_sub (a b : BitVec 32) : a - (0#32 - b) = a + b := by
  rw [BitVec.zero_sub, BitVec.sub_eq_add_neg, BitVec.neg_neg]

/-- What the kernel converts to a float: the sum of the eight products, as a word. -/
def accEnd (c : Dev nD) : IVec S128x8192 32 := addi (accOf m ρ c stepList (fun _ => 0#32)) (mmOf m ρ c 7)

theorem accOf_eq (c : Dev nD) : accOf m ρ c stepList (fun _ => 0#32)
    = addi (addi (addi (addi (addi (subi (mmOf m ρ c 0) (subi (broadcast S128x8192 0#32) (mmOf m ρ c 1))) (mmOf m ρ c 2))
        (mmOf m ρ c 3)) (mmOf m ρ c 4)) (mmOf m ρ c 5)) (mmOf m ρ c 6) := by
  simp only [accOf, stepList, List.foldl_cons, List.foldl_nil]
  unfold k0_pay7 k0_pay6 k0_pay5 k0_pay4 k0_pay3 k0_pay2 k0_pay1 mmOf
  rfl

theorem accEnd_apply (c : Dev nD) (j : S128x8192.Idx) : accEnd m ρ c j = BitVec.ofInt 32 (∑ t : Fin 8, partAt m ρ c j t) := by
  unfold accEnd
  rw [accOf_eq]
  show mmOf m ρ c 0 j - (0#32 - mmOf m ρ c 1 j) + mmOf m ρ c 2 j + mmOf m ρ c 3 j + mmOf m ρ c 4 j + mmOf m ρ c 5 j
    + mmOf m ρ c 6 j + mmOf m ρ c 7 j = _
  rw [sub_zero_sub]
  simp only [mmOf_apply, ← BitVec.ofInt_add]
  rw [Fin.sum_univ_eight]

/-- The blocks of columns, in whatever order, are all the columns. -/
theorem sum_parts (c : Dev nD) (j : S128x8192.Idx) : ∑ t : Fin 8, partAt m ρ c j t = ∑ k : Fin 4096, prodAt m ρ c j k := by
  unfold partAt
  refine (Equiv.sum_comp (Function.Involutive.toPerm (chunk c) (chunk_chunk c))
    (fun a => ∑ k : Fin 512, prodAt m ρ c j (colOf a k))).trans ?_
  rw [← Fintype.sum_prod_type']
  exact Fintype.sum_equiv (finProdFinEquiv (m := 8) (n := 512)) _ _ fun p => congrArg _ (Fin.ext (Nat.add_comm _ _))

theorem natAbs_prodAt (c : Dev nD) (j : S128x8192.Idx) (k : Fin 4096) : (prodAt m ρ c j k).natAbs ≤ 16384 := by
  unfold prodAt
  rw [Int.natAbs_mul]
  exact Nat.mul_le_mul (natAbs_toInt_i8_le _) (natAbs_toInt_i8_le _)

/-- The sum fits: read back, the word is the sum over all columns. -/
theorem accEnd_toInt (c : Dev nD) (j : S128x8192.Idx) : (accEnd m ρ c j).toInt = ∑ k : Fin 4096, prodAt m ρ c j k := by
  have h : (∑ k : Fin 4096, prodAt m ρ c j k).natAbs ≤ 4096 * 16384 := by
    refine (Int.natAbs_sum_le _ _).trans ?_
    refine (Finset.sum_le_card_nsmul _ _ 16384 fun k _ => natAbs_prodAt m ρ c j k).trans ?_
    simp
  rw [accEnd_apply, sum_parts, BitVec.toInt_ofInt]
  apply Int.bmod_eq_of_le <;> omega

end Cert.KernelIdeal.Hand

end
-- ==== Proof.Value.lean ====
/-
  The kernel's result equals the reference's: each device's block is its 128 rows of the whole array's result.
-/
module

public import proofs.«01_k».proof.Proof.Frames
public import proofs.«01_k».proof.Proof.Sums
public import proofs.«01_k».proof.Proof.Gen.ReferenceIdeal.Read

@[expose] public section

set_option maxRecDepth 16384

noncomputable section

namespace Cert.KernelIdeal.Hand

open Cert.KernelIdeal Cert.KernelIdeal.Gen
open Idealize.ShloMosaic Idealize.SL.Sem
open Idealize.ShloMosaic.TcCoe
open Idealize.ShloMosaic.ValueIdx
open Cert.ReferenceIdeal (S4096x4096)
open Cert.ReferenceIdeal.Read

/-! ### From the integer sum to the sum of reals -/

theorem ereal_sum {ι : Type} (s : Finset ι) (f : ι → ℤ) :
    (((∑ k ∈ s, f k : ℤ) : ℝ) : EReal) = ∑ k ∈ s, ((f k : ℝ) : EReal) := by
  classical
  induction s using Finset.induction_on with
  | empty => simp
  | insert a s h ih => rw [Finset.sum_insert h, Finset.sum_insert h, ← ih, Int.cast_add, EReal.coe_add]

theorem sitofp_word {w : ℕ} (b : BitVec w) : (FloatOps.sitofp (F := Ideal) .f32 b : EReal) = ((b.toInt : ℝ) : EReal) := rfl

theorem sitofp_i8 (b : BitVec 8) : (FloatOps.sitofp (F := Ideal) .f32 (b.signExtend 32) : EReal) = ((b.toInt : ℝ) : EReal) := by
  rw [sitofp_word, BitVec.toInt_signExtend_of_le (by decide)]

/-- What both programs do to the scaled product. -/
def act (y : EReal) : EReal :=
  Ideal.div y (Ideal.ofBits .f32 0x3F800000#32
    + Ideal.exp (-(min (Ideal.ofBits .f32 0x42700000#32) (max (Ideal.ofBits .f32 0xC2700000#32) y))))

/-- The scaled product through `act`: the sum, and the two scales. -/
def scaled (s a b : EReal) : EReal := act (s * (a * b))

/-! ### The kernel at an index -/

theorem pay8_apply (a : IVec S128x8192 32) (g : Vec Ideal S128x512 .i8) (w : Vec Ideal S1x512x8192 .i8) (sx sw : Elt Ideal .f32)
    (e : IVec S128x8192 32) (j : S128x8192.Idx)
    (he : addi a (matmulI8 IntMxuNumerics.v7x dot_S128x512_S512x8192_S128x8192_1_0_0_1_n_n g
      (shapeCast S512x8192 w shapeCasts_S1x512x8192_S512x8192) (constantI S128x8192 32 0#32)) = e) :
    k0_pay8 (F := Ideal) a g w sx sw j = scaled (((e j).toInt : ℝ) : EReal) sx sw := by
  unfold k0_pay8
  rw [he]
  have z : Ideal.ofBits .f32 0x00000000#32 = 0 := by simp [Ideal.ofBits, Ideal.ieee]
  unfold scaled act
  rw [← zero_sub, ← z]
  rfl

variable (m : (ℓ : Loc nD τ sig) → Buf (Elt Ideal) ℓ) (ρ : Dev nD → PrngReg)

theorem outAt_apply (c : Dev nD) (j : S128x8192.Idx) : outAt m ρ c j
    = scaled (∑ k : Fin 4096, ((prodAt m ρ c j k : ℝ) : EReal)) (sxstg m ρ c (ix1 (0 : Fin 1))) (swstg m ρ c (ix1 (0 : Fin 1))) := by
  unfold outAt
  rw [pay8_apply _ _ _ _ _ (accEnd m ρ c) j rfl, accEnd_toInt, ereal_sum]

/-! ### The reference at an index -/

/-- The reference's sum at an index. -/
def refSum (x0 : S4096x4096.Idx → BitVec 8) (x1 : S4096x8192.Idx → BitVec 8) (i : S4096x8192.Idx) : EReal :=
  ∑ k : Fin 4096, (((x0 (lidx_main_v4 i k)).toInt : ℝ) : EReal) * (((x1 (ridx_main_v4 i k)).toInt : ℝ) : EReal)

theorem ref_sum (x0 : S4096x4096.Idx → Elt Ideal .i8) (x1 : S4096x8192.Idx → Elt Ideal .i8) (i : S4096x8192.Idx) :
    val_main_v4 (F := Ideal) x0 x1 i = refSum x0 x1 i := by
  refine (val_main_v4_apply x0 x1 i).trans (Finset.sum_congr rfl fun k _ => ?_)
  exact congrArg₂ (fun a b : EReal => a * b) (sitofp_i8 (x0 (lidx_main_v4 i k))) (sitofp_i8 (x1 (ridx_main_v4 i k)))

theorem ref_scale (x2 x3 : S1.Idx → Elt Ideal .f32) (i : S4096x8192.Idx) :
    val_main_v7 (F := Ideal) x2 x3 i = FloatOps.mulf (F := Ideal) (φ := .f32) (x2 (ix1 (0 : Fin 1))) (x3 (ix1 (0 : Fin 1))) := by
  refine (val_main_v7_apply x2 x3 i).trans ((val_main_v6_apply x2 x3 _).trans ?_)
  exact congrArg₂ (FloatOps.mulf (F := Ideal) (φ := .f32)) (first_S1 x2 _) (first_S1 x3 _)

theorem ref_apply (x0 : S4096x4096.Idx → Elt Ideal .i8) (x1 : S4096x8192.Idx → Elt Ideal .i8) (x2 x3 : S1.Idx → Elt Ideal .f32)
    (i : S4096x8192.Idx) : val_main_v14 (F := Ideal) x0 x1 x2 x3 i
      = scaled (refSum x0 x1 i) (x2 (ix1 (0 : Fin 1))) (x3 (ix1 (0 : Fin 1))) := by
  rw [val_main_v14_apply, val_main_v13_apply, val_main_v12_apply, val_main_v11_apply, val_main_v10_apply, val_main_v9_apply,
    val_main_call0_v4_apply, val_main_call0_v3_apply, val_main_call0_v2_apply, val_main_call0_v1_apply, val_main_call0_v0_apply,
    val_main_cst_apply, val_main_cst_0_apply, val_main_cst_1_apply, val_main_v8_apply, ref_sum, ref_scale]
  generalize refSum x0 x1 i = s
  generalize x2 (ix1 (0 : Fin 1)) = a
  generalize x3 (ix1 (0 : Fin 1)) = b
  rfl

/-! ### The two together -/

/-- Device `c`'s 128 rows of `x`, as the exchange gathers them, are rows `128 c …` of the whole array. -/
theorem gFull_block (X : S4096x4096.Idx → Elt Ideal .i8)
    (hx : ∀ c : Dev nD, m ((c.tc : Thread nD τ).loc main_arg0) = Layout.block ⟨2, ![4096, 128]⟩ ⟨2, ![4096, 4096]⟩ 1 32 c X)
    (c : Dev nD) (i : Fin 128) (k : Fin 4096) (p : S4096x4096.Idx) (h0 : (p 0).val = c.val * 128 + i.val) (h1 : (p 1).val = k.val) :
    gFull m ρ c (ix2 (n0 := 128) (n1 := 4096) i k) = X p := by
  unfold gFull
  rw [xstg_eq, hx]
  refine congrArg X (funext fun a => ?_)
  match a with
  | ⟨0, _⟩ => exact Fin.ext ((show 128 * c.val + i.val = c.val * 128 + i.val by omega).trans h0.symm)
  | ⟨1, _⟩ => exact Fin.ext ((show k.val / 128 * 128 + k.val % 128 = k.val by omega).trans h1.symm)

theorem out_block (X : S4096x4096.Idx → Elt Ideal .i8) (W : S4096x8192.Idx → Elt Ideal .i8) (sx sw : S1.Idx → Elt Ideal .f32)
    (hx : ∀ c : Dev nD, m ((c.tc : Thread nD τ).loc main_arg0) = Layout.block ⟨2, ![4096, 128]⟩ ⟨2, ![4096, 4096]⟩ 1 32 c X)
    (c : Dev nD) (hw : m ((c.tc : Thread nD τ).loc main_arg1) = W) (h2 : m ((c.tc : Thread nD τ).loc main_arg2) = sx)
    (h3 : m ((c.tc : Thread nD τ).loc main_arg3) = sw) :
    outAt m ρ c = Layout.block ⟨2, ![128, 8192]⟩ ⟨2, ![4096, 8192]⟩ 0 32 c (val_main_v14 (F := Ideal) X W sx sw) := by
  funext j
  refine (outAt_apply m ρ c j).trans (Eq.trans ?_ (ref_apply X W sx sw _).symm)
  rw [sxstg_eq, swstg_eq]
  rw [congrFun h2 (ix1 (0 : Fin 1)), congrFun h3 (ix1 (0 : Fin 1))]
  refine congrArg (fun s : EReal => scaled s (sx (ix1 (0 : Fin 1))) (sw (ix1 (0 : Fin 1)))) (Finset.sum_congr rfl fun k _ => ?_)
  unfold prodAt
  rw [Int.cast_mul, EReal.coe_mul]
  refine congrArg₂ (fun a b : BitVec 8 => ((a.toInt : ℝ) : EReal) * ((b.toInt : ℝ) : EReal))
    (gFull_block m ρ X hx c (j 0) k _ rfl rfl) ((congrFun hw _).trans (congrArg W (funext fun a => ?_)))
  match a with
  | ⟨0, _⟩ => rfl
  | ⟨1, _⟩ => rfl

theorem algebraic : Cert.algebraic_KernelIdeal_ReferenceIdeal := fun m g m' g' _ hag =>
  ⟨val_main_v14 (F := Ideal) _ _ _ _,
    (θ_run defs _ _).mono
      (fun r h c => ⟨(h.1 c).1.trans (out_block m g _ _ _ _ (fun c => (hag c).1) c (hag c).2.1 (hag c).2.2.1 (hag c).2.2.2), (h.1 c).2⟩)
      (run_named m g),
    (θ_run Cert.ReferenceIdeal.defs _ _).mono
      (fun r h => ⟨(h 0).1.trans (val_main_v14_eq _ _ _ _), (h 0).2⟩) (Cert.ReferenceIdeal.Value.run (F := Ideal) m' g')⟩

end Cert.KernelIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KernelIdeal.Hand.frame_kernel, Cert.KernelIdeal.Hand.frame_ideal, Cert.KernelIdeal.Hand.frame_reference, trivial, Cert.KernelIdeal.Hand.algebraic⟩

end Cert.Proof

end
